-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_own_row_from_zero [hPre_own_row_from_zero : Cert.Pre_own_row_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_own_row_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_own_row_from_zero [hPre_own_row_from_zero : Cert.Pre_own_row_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_own_row_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_own_row_from_zero [hKernelIdeal : Cert.KernelIdeal.Facts] [hPre_own_row_from_zero : Cert.Pre_own_row_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_own_row_from_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_own_row_from_zero [hReferenceIdeal : Cert.ReferenceIdeal.Facts] [hPre_own_row_from_zero : Cert.Pre_own_row_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_own_row_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_own_row_from_zero [hKernelIdeal : Cert.KernelIdeal.Facts] [hReferenceIdeal : Cert.ReferenceIdeal.Facts] [hPre_own_row_from_zero : Cert.Pre_own_row_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_own_row_from_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)) (v3 : (c : Dev Cert.KernelIdeal.nD) → Buf (Elt Ideal) ((c.tc : Thread Cert.KernelIdeal.nD Cert.KernelIdeal.τ).loc Cert.KernelIdeal.main_v57)) (v4 : (c : Dev Cert.KernelIdeal.nD) → Buf (Elt Ideal) ((c.tc : Thread Cert.KernelIdeal.nD Cert.KernelIdeal.τ).loc Cert.KernelIdeal.main_v58)) (v5 : (c : Dev Cert.KernelIdeal.nD) → Buf (Elt Ideal) ((c.tc : Thread Cert.KernelIdeal.nD Cert.KernelIdeal.τ).loc Cert.KernelIdeal.main_v59)) (v6 : (c : Dev Cert.KernelIdeal.nD) → Buf (Elt Ideal) ((c.tc : Thread Cert.KernelIdeal.nD Cert.KernelIdeal.τ).loc Cert.KernelIdeal.main_v60)) (v7 : (c : Dev Cert.KernelIdeal.nD) → Buf (Elt Ideal) ((c.tc : Thread Cert.KernelIdeal.nD Cert.KernelIdeal.τ).loc Cert.KernelIdeal.main_v61)) (v8 : (c : Dev Cert.KernelIdeal.nD) → Buf (Elt Ideal) ((c.tc : Thread Cert.KernelIdeal.nD Cert.KernelIdeal.τ).loc Cert.KernelIdeal.main_v62)) (v9 : (c : Dev Cert.KernelIdeal.nD) → Buf (Elt Ideal) ((c.tc : Thread Cert.KernelIdeal.nD Cert.KernelIdeal.τ).loc Cert.KernelIdeal.main_v63)) (v10 : (c : Dev Cert.KernelIdeal.nD) → Buf (Elt Ideal) ((c.tc : Thread Cert.KernelIdeal.nD Cert.KernelIdeal.τ).loc Cert.KernelIdeal.main_v64)) (v11 : (c : Dev Cert.KernelIdeal.nD) → Buf (Elt Ideal) ((c.tc : Thread Cert.KernelIdeal.nD Cert.KernelIdeal.τ).loc Cert.KernelIdeal.main_v65)) (v12 : (c : Dev Cert.KernelIdeal.nD) → Buf (Elt Ideal) ((c.tc : Thread Cert.KernelIdeal.nD Cert.KernelIdeal.τ).loc Cert.KernelIdeal.main_v66)) (v13 : (c : Dev Cert.KernelIdeal.nD) → Buf (Elt Ideal) ((c.tc : Thread Cert.KernelIdeal.nD Cert.KernelIdeal.τ).loc Cert.KernelIdeal.main_v67)) (v14 : (c : Dev Cert.KernelIdeal.nD) → Buf (Elt Ideal) ((c.tc : Thread Cert.KernelIdeal.nD Cert.KernelIdeal.τ).loc Cert.KernelIdeal.main_v68)) (v15 : (c : Dev Cert.KernelIdeal.nD) → Buf (Elt Ideal) ((c.tc : Thread Cert.KernelIdeal.nD Cert.KernelIdeal.τ).loc Cert.KernelIdeal.main_v69)) (v16 : (c : Dev Cert.KernelIdeal.nD) → Buf (Elt Ideal) ((c.tc : Thread Cert.KernelIdeal.nD Cert.KernelIdeal.τ).loc Cert.KernelIdeal.main_v49)) (v17 : (c : Dev Cert.KernelIdeal.nD) → Buf (Elt Ideal) ((c.tc : Thread Cert.KernelIdeal.nD Cert.KernelIdeal.τ).loc Cert.KernelIdeal.main_v53)) (v18 : (c : Dev Cert.KernelIdeal.nD) → Buf (Elt Ideal) ((c.tc : Thread Cert.KernelIdeal.nD Cert.KernelIdeal.τ).loc Cert.KernelIdeal.main_v70)) (v19 : (c : Dev Cert.KernelIdeal.nD) → Buf (Elt Ideal) ((c.tc : Thread Cert.KernelIdeal.nD Cert.KernelIdeal.τ).loc Cert.KernelIdeal.main_v71)) (v20 : (c : Dev Cert.KernelIdeal.nD) → Buf (Elt Ideal) ((c.tc : Thread Cert.KernelIdeal.nD Cert.KernelIdeal.τ).loc Cert.KernelIdeal.main_v72)) (v21 : (c : Dev Cert.KernelIdeal.nD) → Buf (Elt Ideal) ((c.tc : Thread Cert.KernelIdeal.nD Cert.KernelIdeal.τ).loc Cert.KernelIdeal.main_v73)) (v22 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_v57) = v3 c
          ∧ r.2.mem ((c.tc : Thread Cert.KernelIdeal.nD Cert.KernelIdeal.τ).loc Cert.KernelIdeal.main_v58) = v4 c
          ∧ r.2.mem ((c.tc : Thread Cert.KernelIdeal.nD Cert.KernelIdeal.τ).loc Cert.KernelIdeal.main_v59) = v5 c
          ∧ r.2.mem ((c.tc : Thread Cert.KernelIdeal.nD Cert.KernelIdeal.τ).loc Cert.KernelIdeal.main_v60) = v6 c
          ∧ r.2.mem ((c.tc : Thread Cert.KernelIdeal.nD Cert.KernelIdeal.τ).loc Cert.KernelIdeal.main_v61) = v7 c
          ∧ r.2.mem ((c.tc : Thread Cert.KernelIdeal.nD Cert.KernelIdeal.τ).loc Cert.KernelIdeal.main_v62) = v8 c
          ∧ r.2.mem ((c.tc : Thread Cert.KernelIdeal.nD Cert.KernelIdeal.τ).loc Cert.KernelIdeal.main_v63) = v9 c
          ∧ r.2.mem ((c.tc : Thread Cert.KernelIdeal.nD Cert.KernelIdeal.τ).loc Cert.KernelIdeal.main_v64) = v10 c
          ∧ r.2.mem ((c.tc : Thread Cert.KernelIdeal.nD Cert.KernelIdeal.τ).loc Cert.KernelIdeal.main_v65) = v11 c
          ∧ r.2.mem ((c.tc : Thread Cert.KernelIdeal.nD Cert.KernelIdeal.τ).loc Cert.KernelIdeal.main_v66) = v12 c
          ∧ r.2.mem ((c.tc : Thread Cert.KernelIdeal.nD Cert.KernelIdeal.τ).loc Cert.KernelIdeal.main_v67) = v13 c
          ∧ r.2.mem ((c.tc : Thread Cert.KernelIdeal.nD Cert.KernelIdeal.τ).loc Cert.KernelIdeal.main_v68) = v14 c
          ∧ r.2.mem ((c.tc : Thread Cert.KernelIdeal.nD Cert.KernelIdeal.τ).loc Cert.KernelIdeal.main_v69) = v15 c
          ∧ r.2.mem ((c.tc : Thread Cert.KernelIdeal.nD Cert.KernelIdeal.τ).loc Cert.KernelIdeal.main_v49) = v16 c
          ∧ r.2.mem ((c.tc : Thread Cert.KernelIdeal.nD Cert.KernelIdeal.τ).loc Cert.KernelIdeal.main_v53) = v17 c
          ∧ r.2.mem ((c.tc : Thread Cert.KernelIdeal.nD Cert.KernelIdeal.τ).loc Cert.KernelIdeal.main_v70) = v18 c
          ∧ r.2.mem ((c.tc : Thread Cert.KernelIdeal.nD Cert.KernelIdeal.τ).loc Cert.KernelIdeal.main_v71) = v19 c
          ∧ r.2.mem ((c.tc : Thread Cert.KernelIdeal.nD Cert.KernelIdeal.τ).loc Cert.KernelIdeal.main_v72) = v20 c
          ∧ r.2.mem ((c.tc : Thread Cert.KernelIdeal.nD Cert.KernelIdeal.τ).loc Cert.KernelIdeal.main_v73) = v21 c
          ∧ r.2.mem ((c.tc : Thread Cert.KernelIdeal.nD Cert.KernelIdeal.τ).loc Cert.KernelIdeal.main_v74) = v22 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_v111) = v6 c
          ∧ r.2.mem ((c.tc : Thread Cert.ReferenceIdeal.nD Cert.ReferenceIdeal.τ).loc Cert.ReferenceIdeal.main_v126) = v7 c
          ∧ r.2.mem ((c.tc : Thread Cert.ReferenceIdeal.nD Cert.ReferenceIdeal.τ).loc Cert.ReferenceIdeal.main_v141) = v8 c
          ∧ r.2.mem ((c.tc : Thread Cert.ReferenceIdeal.nD Cert.ReferenceIdeal.τ).loc Cert.ReferenceIdeal.main_v156) = v9 c
          ∧ r.2.mem ((c.tc : Thread Cert.ReferenceIdeal.nD Cert.ReferenceIdeal.τ).loc Cert.ReferenceIdeal.main_v171) = v10 c
          ∧ r.2.mem ((c.tc : Thread Cert.ReferenceIdeal.nD Cert.ReferenceIdeal.τ).loc Cert.ReferenceIdeal.main_v186) = v11 c
          ∧ r.2.mem ((c.tc : Thread Cert.ReferenceIdeal.nD Cert.ReferenceIdeal.τ).loc Cert.ReferenceIdeal.main_v201) = v12 c
          ∧ r.2.mem ((c.tc : Thread Cert.ReferenceIdeal.nD Cert.ReferenceIdeal.τ).loc Cert.ReferenceIdeal.main_v216) = v13 c
          ∧ r.2.mem ((c.tc : Thread Cert.ReferenceIdeal.nD Cert.ReferenceIdeal.τ).loc Cert.ReferenceIdeal.main_v231) = v14 c
          ∧ r.2.mem ((c.tc : Thread Cert.ReferenceIdeal.nD Cert.ReferenceIdeal.τ).loc Cert.ReferenceIdeal.main_v246) = v15 c
          ∧ r.2.mem ((c.tc : Thread Cert.ReferenceIdeal.nD Cert.ReferenceIdeal.τ).loc Cert.ReferenceIdeal.main_v261) = v16 c
          ∧ r.2.mem ((c.tc : Thread Cert.ReferenceIdeal.nD Cert.ReferenceIdeal.τ).loc Cert.ReferenceIdeal.main_v276) = v17 c
          ∧ r.2.mem ((c.tc : Thread Cert.ReferenceIdeal.nD Cert.ReferenceIdeal.τ).loc Cert.ReferenceIdeal.main_v291) = v18 c
          ∧ r.2.mem ((c.tc : Thread Cert.ReferenceIdeal.nD Cert.ReferenceIdeal.τ).loc Cert.ReferenceIdeal.main_v306) = v19 c
          ∧ r.2.mem ((c.tc : Thread Cert.ReferenceIdeal.nD Cert.ReferenceIdeal.τ).loc Cert.ReferenceIdeal.main_v321) = v20 c
          ∧ r.2.mem ((c.tc : Thread Cert.ReferenceIdeal.nD Cert.ReferenceIdeal.τ).loc Cert.ReferenceIdeal.main_v336) = v21 c
          ∧ r.2.mem ((c.tc : Thread Cert.ReferenceIdeal.nD Cert.ReferenceIdeal.τ).loc Cert.ReferenceIdeal.main_v344) = v22 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_own_row_from_zero : Cert.Pre_own_row_from_zero.Facts),
    quiescent_Kernel (hKernel := hKernel)
    ∧ quiescent_KernelIdeal (hKernelIdeal := hKernelIdeal)
    ∧ quiescent_KernelIdeal_pre_own_row_from_zero (hKernelIdeal := hKernelIdeal) (hPre_own_row_from_zero := hPre_own_row_from_zero)
    ∧ quiescent_ReferenceIdeal (hReferenceIdeal := hReferenceIdeal)
    ∧ quiescent_ReferenceIdeal_pre_own_row_from_zero (hReferenceIdeal := hReferenceIdeal) (hPre_own_row_from_zero := hPre_own_row_from_zero)
    ∧ preserves_Kernel_KernelIdeal
    ∧ algebraic_KernelIdeal_ReferenceIdeal_pre_own_row_from_zero (hKernelIdeal := hKernelIdeal) (hReferenceIdeal := hReferenceIdeal) (hPre_own_row_from_zero := hPre_own_row_from_zero)
-- ==== Pre_own_row_from_zero.lean ====
abbrev S256 : Shape := ⟨1, ![256]⟩
abbrev S256x64 : Shape := ⟨2, ![256, 64]⟩
abbrev S256x32 : Shape := ⟨2, ![256, 32]⟩
abbrev S256x32x16 : Shape := ⟨3, ![256, 32, 16]⟩
abbrev S256x32x4 : Shape := ⟨3, ![256, 32, 4]⟩
abbrev S256x32x4x8 : Shape := ⟨4, ![256, 32, 4, 8]⟩
abbrev S_ : Shape := ⟨0, ![]⟩

class Facts : Prop where
  bcast_S_S256 : S_.BroadcastsInDim S256 (![] : Fin 0 → Fin S256.rank)

variable [Facts]

def fn {F : FTy → Type} [FloatOps F] (main_arg0 : IVec S256 32) (main_arg1 : IVec S256 32) (main_arg2 : IVec S256x64 32) (main_arg3 : FVec F S256x64 .f32) (main_arg4 : FVec F S256x64 .f32) (main_arg5 : FVec F S256x64 .f32) (main_arg6 : IVec S256 32) (main_arg7 : IVec S256 32) (main_arg8 : IVec S256x32 32) (main_arg9 : FVec F S256x32x16 .f32) (main_arg10 : FVec F S256x32 .f32) (main_arg11 : IVec S256x32 32) (main_arg12 : IVec S256x32 32) (main_arg13 : FVec F S256x32x4 .f32) (main_arg14 : IVec S256x32x4 32) (main_arg15 : FVec F S256x32x4x8 .f32) (main_arg16 : FVec F S256x32 .f32) (main_arg17 : IVec S256x32x4 32) (main_arg18 : IVec S256x32x4 1) (main_arg19 : IVec S256x32x4 1) (main_arg20 : FVec F S256 .f32) (main_arg21 : FVec F S256 .f32) (main_arg22 : FVec F S256 .f32) (main_arg23 : IVec S256 32) : IVec S256 1 :=
  let main_v0 : IVec S256 32 := iotaInDim S256 32 0
  let main_v1 : IVec S256 1 := cmpi .eq main_arg0 main_v0
  let main_c : IVec S_ 32 := constantI S_ 32 0#32
  let main_v2 : IVec S256 32 := broadcastInDim S256 ![] bcast_S_S256 main_c
  let main_v3 : IVec S256 1 := cmpi .sge main_arg1 main_v2
  let main_v4 : IVec S256 1 := andi main_v1 main_v3
  main_v4
-- ==== Kernel.lean ====
abbrev S256 : Shape := ⟨1, ![256]⟩
abbrev S256x64 : Shape := ⟨2, ![256, 64]⟩
abbrev S256x32 : Shape := ⟨2, ![256, 32]⟩
abbrev S256x32x16 : Shape := ⟨3, ![256, 32, 16]⟩
abbrev S256x32x4 : Shape := ⟨3, ![256, 32, 4]⟩
abbrev S256x32x4x8 : Shape := ⟨4, ![256, 32, 4, 8]⟩
abbrev S64x256 : Shape := ⟨2, ![64, 256]⟩
abbrev S1x64x256 : Shape := ⟨3, ![1, 64, 256]⟩
abbrev S32x256 : Shape := ⟨2, ![32, 256]⟩
abbrev S1x32x256 : Shape := ⟨3, ![1, 32, 256]⟩
abbrev S32x16x256 : Shape := ⟨3, ![32, 16, 256]⟩
abbrev S1x32x16x256 : Shape := ⟨4, ![1, 32, 16, 256]⟩
abbrev S32x4x256 : Shape := ⟨3, ![32, 4, 256]⟩
abbrev S1x32x4x256 : Shape := ⟨4, ![1, 32, 4, 256]⟩
abbrev S32x4x8x256 : Shape := ⟨4, ![32, 4, 8, 256]⟩
abbrev S1x32x4x8x256 : Shape := ⟨5, ![1, 32, 4, 8, 256]⟩
abbrev S1x256 : Shape := ⟨2, ![1, 256]⟩
abbrev S1x1x256 : Shape := ⟨3, ![1, 1, 256]⟩
abbrev S1x1x1x256 : Shape := ⟨4, ![1, 1, 1, 256]⟩
abbrev S1x1x1x1x256 : Shape := ⟨5, ![1, 1, 1, 1, 256]⟩
abbrev S64x64x256 : Shape := ⟨3, ![64, 64, 256]⟩
abbrev S64x32x256 : Shape := ⟨3, ![64, 32, 256]⟩
abbrev S64x32x16x256 : Shape := ⟨4, ![64, 32, 16, 256]⟩
abbrev S64x32x4x256 : Shape := ⟨4, ![64, 32, 4, 256]⟩
abbrev S64x32x4x8x256 : Shape := ⟨5, ![64, 32, 4, 8, 256]⟩
abbrev S8x64x256 : Shape := ⟨3, ![8, 64, 256]⟩
abbrev S8x32x256 : Shape := ⟨3, ![8, 32, 256]⟩
abbrev S8x32x16x256 : Shape := ⟨4, ![8, 32, 16, 256]⟩
abbrev S8x32x4x256 : Shape := ⟨4, ![8, 32, 4, 256]⟩
abbrev S8x32x4x8x256 : Shape := ⟨5, ![8, 32, 4, 8, 256]⟩
abbrev S8x256 : Shape := ⟨2, ![8, 256]⟩
abbrev S8x1x256 : Shape := ⟨3, ![8, 1, 256]⟩
abbrev S8x1x1x256 : Shape := ⟨4, ![8, 1, 1, 256]⟩
abbrev S8x1x1x1x256 : Shape := ⟨5, ![8, 1, 1, 1, 256]⟩
abbrev S256x1 : Shape := ⟨2, ![256, 1]⟩
abbrev S64 : Shape := ⟨1, ![64]⟩
abbrev S1x64 : Shape := ⟨2, ![1, 64]⟩
abbrev S256x64x1x1 : Shape := ⟨4, ![256, 64, 1, 1]⟩
abbrev S256x1x32x4 : Shape := ⟨4, ![256, 1, 32, 4]⟩
abbrev S256x64x32x4 : Shape := ⟨4, ![256, 64, 32, 4]⟩
abbrev S256x64x64 : Shape := ⟨3, ![256, 64, 64]⟩
abbrev S256x64x32 : Shape := ⟨3, ![256, 64, 32]⟩
abbrev S256x64x32x16 : Shape := ⟨4, ![256, 64, 32, 16]⟩
abbrev S256x64x32x4x8 : Shape := ⟨5, ![256, 64, 32, 4, 8]⟩

abbrev nBuf : Space → Nat
  | .hbm => 119
  | .vmem => 65
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S256x64, .i32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256, .i32⟩
  | .hbm, ⟨7, _⟩ => ⟨S256, .i32⟩
  | .hbm, ⟨8, _⟩ => ⟨S256x32, .i32⟩
  | .hbm, ⟨9, _⟩ => ⟨S256x32x16, .f32⟩
  | .hbm, ⟨10, _⟩ => ⟨S256x32, .f32⟩
  | .hbm, ⟨11, _⟩ => ⟨S256x32, .i32⟩
  | .hbm, ⟨12, _⟩ => ⟨S256x32, .i32⟩
  | .hbm, ⟨13, _⟩ => ⟨S256x32x4, .f32⟩
  | .hbm, ⟨14, _⟩ => ⟨S256x32x4, .i32⟩
  | .hbm, ⟨15, _⟩ => ⟨S256x32x4x8, .f32⟩
  | .hbm, ⟨16, _⟩ => ⟨S256x32, .f32⟩
  | .hbm, ⟨17, _⟩ => ⟨S256x32x4, .i32⟩
  | .hbm, ⟨18, _⟩ => ⟨S256x32x4, .i1⟩
  | .hbm, ⟨19, _⟩ => ⟨S256x32x4, .i1⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .i32⟩
  | .hbm, ⟨24, _⟩ => ⟨S64x256, .i32⟩
  | .hbm, ⟨25, _⟩ => ⟨S1x64x256, .i32⟩
  | .hbm, ⟨26, _⟩ => ⟨S64x256, .f32⟩
  | .hbm, ⟨27, _⟩ => ⟨S1x64x256, .f32⟩
  | .hbm, ⟨28, _⟩ => ⟨S64x256, .f32⟩
  | .hbm, ⟨29, _⟩ => ⟨S1x64x256, .f32⟩
  | .hbm, ⟨30, _⟩ => ⟨S64x256, .f32⟩
  | .hbm, ⟨31, _⟩ => ⟨S1x64x256, .f32⟩
  | .hbm, ⟨32, _⟩ => ⟨S32x256, .i32⟩
  | .hbm, ⟨33, _⟩ => ⟨S1x32x256, .i32⟩
  | .hbm, ⟨34, _⟩ => ⟨S32x256, .f32⟩
  | .hbm, ⟨35, _⟩ => ⟨S1x32x256, .f32⟩
  | .hbm, ⟨36, _⟩ => ⟨S32x256, .i32⟩
  | .hbm, ⟨37, _⟩ => ⟨S1x32x256, .i32⟩
  | .hbm, ⟨38, _⟩ => ⟨S32x256, .i32⟩
  | .hbm, ⟨39, _⟩ => ⟨S1x32x256, .i32⟩
  | .hbm, ⟨40, _⟩ => ⟨S32x256, .f32⟩
  | .hbm, ⟨41, _⟩ => ⟨S1x32x256, .f32⟩
  | .hbm, ⟨42, _⟩ => ⟨S32x16x256, .f32⟩
  | .hbm, ⟨43, _⟩ => ⟨S1x32x16x256, .f32⟩
  | .hbm, ⟨44, _⟩ => ⟨S32x4x256, .f32⟩
  | .hbm, ⟨45, _⟩ => ⟨S1x32x4x256, .f32⟩
  | .hbm, ⟨46, _⟩ => ⟨S32x4x256, .i32⟩
  | .hbm, ⟨47, _⟩ => ⟨S1x32x4x256, .i32⟩
  | .hbm, ⟨48, _⟩ => ⟨S32x4x256, .i32⟩
  | .hbm, ⟨49, _⟩ => ⟨S1x32x4x256, .i32⟩
  | .hbm, ⟨50, _⟩ => ⟨S32x4x8x256, .f32⟩
  | .hbm, ⟨51, _⟩ => ⟨S1x32x4x8x256, .f32⟩
  | .hbm, ⟨52, _⟩ => ⟨S1x256, .i32⟩
  | .hbm, ⟨53, _⟩ => ⟨S1x256, .i32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .i32⟩
  | .hbm, ⟨58, _⟩ => ⟨S1x256, .i32⟩
  | .hbm, ⟨59, _⟩ => ⟨S1x1x256, .i32⟩
  | .hbm, ⟨60, _⟩ => ⟨S1x1x1x256, .i32⟩
  | .hbm, ⟨61, _⟩ => ⟨S1x1x1x1x256, .i32⟩
  | .hbm, ⟨62, _⟩ => ⟨S64x64x256, .i32⟩
  | .hbm, ⟨63, _⟩ => ⟨S64x64x256, .f32⟩
  | .hbm, ⟨64, _⟩ => ⟨S64x64x256, .f32⟩
  | .hbm, ⟨65, _⟩ => ⟨S64x64x256, .f32⟩
  | .hbm, ⟨66, _⟩ => ⟨S64x32x256, .i32⟩
  | .hbm, ⟨67, _⟩ => ⟨S64x32x256, .f32⟩
  | .hbm, ⟨68, _⟩ => ⟨S64x32x256, .i32⟩
  | .hbm, ⟨69, _⟩ => ⟨S64x32x256, .i32⟩
  | .hbm, ⟨70, _⟩ => ⟨S64x32x256, .f32⟩
  | .hbm, ⟨71, _⟩ => ⟨S64x32x16x256, .f32⟩
  | .hbm, ⟨72, _⟩ => ⟨S64x32x4x256, .f32⟩
  | .hbm, ⟨73, _⟩ => ⟨S64x32x4x256, .i32⟩
  | .hbm, ⟨74, _⟩ => ⟨S64x32x4x256, .i32⟩
  | .hbm, ⟨75, _⟩ => ⟨S64x32x4x8x256, .f32⟩
  | .hbm, ⟨76, _⟩ => ⟨S64x256, .i32⟩
  | .hbm, ⟨77, _⟩ => ⟨S64x256, .i32⟩
  | .hbm, ⟨78, _⟩ => ⟨S64x256, .f32⟩
  | .hbm, ⟨79, _⟩ => ⟨S64x256, .f32⟩
  | .hbm, ⟨80, _⟩ => ⟨S64x256, .f32⟩
  | .hbm, ⟨81, _⟩ => ⟨S64x256, .i32⟩
  | .hbm, ⟨82, _⟩ => ⟨S1x256, .i32⟩
  | .hbm, ⟨83, _⟩ => ⟨S256x1, .i32⟩
  | .hbm, ⟨84, _⟩ => ⟨S64, .i32⟩
  | .hbm, ⟨85, _⟩ => ⟨S1x64, .i32⟩
  | .hbm, ⟨86, _⟩ => ⟨S256x64, .i32⟩
  | .hbm, ⟨87, _⟩ => ⟨S256x64, .i32⟩
  | .hbm, ⟨88, _⟩ => ⟨S256x64, .i1⟩
  | .hbm, ⟨89, _⟩ => ⟨S256x64x1x1, .i1⟩
  | .hbm, ⟨90, _⟩ => ⟨S256x1x32x4, .i1⟩
  | .hbm, ⟨91, _⟩ => ⟨S256x64x32x4, .i1⟩
  | .hbm, ⟨92, _⟩ => ⟨S256x64x32x4, .i1⟩
  | .hbm, ⟨93, _⟩ => ⟨S256x64x32x4, .i1⟩
  | .hbm, ⟨94, _⟩ => ⟨S256x1x32x4, .i1⟩
  | .hbm, ⟨95, _⟩ => ⟨S256x64x32x4, .i1⟩
  | .hbm, ⟨96, _⟩ => ⟨S256x64x32x4, .i1⟩
  | .hbm, ⟨97, _⟩ => ⟨S256x64x32x4, .i1⟩
  | .hbm, ⟨98, _⟩ => ⟨S256x64x64, .i32⟩
  | .hbm, ⟨99, _⟩ => ⟨S256x64x64, .f32⟩
  | .hbm, ⟨100, _⟩ => ⟨S256x64x64, .f32⟩
  | .hbm, ⟨101, _⟩ => ⟨S256x64x64, .f32⟩
  | .hbm, ⟨102, _⟩ => ⟨S256x64, .i32⟩
  | .hbm, ⟨103, _⟩ => ⟨S256x64, .i32⟩
  | .hbm, ⟨104, _⟩ => ⟨S256x64x32, .i32⟩
  | .hbm, ⟨105, _⟩ => ⟨S256x64x32x16, .f32⟩
  | .hbm, ⟨106, _⟩ => ⟨S256x64x32, .f32⟩
  | .hbm, ⟨107, _⟩ => ⟨S256x64x32, .i32⟩
  | .hbm, ⟨108, _⟩ => ⟨S256x64x32, .i32⟩
  | .hbm, ⟨109, _⟩ => ⟨S256x64x32x4, .f32⟩
  | .hbm, ⟨110, _⟩ => ⟨S256x64x32x4, .i32⟩
  | .hbm, ⟨111, _⟩ => ⟨S256x64x32x4x8, .f32⟩
  | .hbm, ⟨112, _⟩ => ⟨S256x64x32, .f32⟩
  | .hbm, ⟨113, _⟩ => ⟨S256x64x32x4, .i32⟩
  | .hbm, ⟨114, _⟩ => ⟨S256x64, .f32⟩
  | .hbm, ⟨115, _⟩ => ⟨S256x64, .f32⟩
  | .hbm, ⟨116, _⟩ => ⟨S256x64, .f32⟩
  | .hbm, ⟨117, _⟩ => ⟨S256x64, .i32⟩
  | .hbm, ⟨118, _⟩ => ⟨S256, .i32⟩
  | .local _ .vmem, ⟨0, _⟩ => ⟨S1x64x256, .i32⟩
  | .local _ .vmem, ⟨1, _⟩ => ⟨S1x64x256, .f32⟩
  | .local _ .vmem, ⟨2, _⟩ => ⟨S1x64x256, .f32⟩
  | .local _ .vmem, ⟨3, _⟩ => ⟨S1x64x256, .f32⟩
  | .local _ .vmem, ⟨4, _⟩ => ⟨S1x32x256, .i32⟩
  | .local _ .vmem, ⟨5, _⟩ => ⟨S1x32x256, .f32⟩
  | .local _ .vmem, ⟨6, _⟩ => ⟨S1x32x256, .i32⟩
  | .local _ .vmem, ⟨7, _⟩ => ⟨S1x32x256, .i32⟩
  | .local _ .vmem, ⟨8, _⟩ => ⟨S1x32x256, .f32⟩
  | .local _ .vmem, ⟨9, _⟩ => ⟨S1x32x16x256, .f32⟩
  | .local _ .vmem, ⟨10, _⟩ => ⟨S1x32x4x256, .f32⟩
  | .local _ .vmem, ⟨11, _⟩ => ⟨S1x32x4x256, .i32⟩
  | .local _ .vmem, ⟨12, _⟩ => ⟨S1x32x4x256, .i32⟩
  | .local _ .vmem, ⟨13, _⟩ => ⟨S1x32x4x8x256, .f32⟩
  | .local _ .vmem, ⟨14, _⟩ => ⟨S1x256, .i32⟩
  | .local _ .vmem, ⟨15, _⟩ => ⟨S1x256, .i32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .i32⟩
  | .local _ .vmem, ⟨20, _⟩ => ⟨S1x256, .i32⟩
  | .local _ .vmem, ⟨21, _⟩ => ⟨S1x1x256, .i32⟩
  | .local _ .vmem, ⟨22, _⟩ => ⟨S1x1x1x256, .i32⟩
  | .local _ .vmem, ⟨23, _⟩ => ⟨S1x1x1x1x256, .i32⟩
  | .local _ .vmem, ⟨24, _⟩ => ⟨S8x64x256, .i32⟩
  | .local _ .vmem, ⟨25, _⟩ => ⟨S8x64x256, .i32⟩
  | .local _ .vmem, ⟨26, _⟩ => ⟨S8x64x256, .f32⟩
  | .local _ .vmem, ⟨27, _⟩ => ⟨S8x64x256, .f32⟩
  | .local _ .vmem, ⟨28, _⟩ => ⟨S8x64x256, .f32⟩
  | .local _ .vmem, ⟨29, _⟩ => ⟨S8x64x256, .f32⟩
  | .local _ .vmem, ⟨30, _⟩ => ⟨S8x64x256, .f32⟩
  | .local _ .vmem, ⟨31, _⟩ => ⟨S8x64x256, .f32⟩
  | .local _ .vmem, ⟨32, _⟩ => ⟨S8x32x256, .i32⟩
  | .local _ .vmem, ⟨33, _⟩ => ⟨S8x32x256, .i32⟩
  | .local _ .vmem, ⟨34, _⟩ => ⟨S8x32x256, .f32⟩
  | .local _ .vmem, ⟨35, _⟩ => ⟨S8x32x256, .f32⟩
  | .local _ .vmem, ⟨36, _⟩ => ⟨S8x32x256, .i32⟩
  | .local _ .vmem, ⟨37, _⟩ => ⟨S8x32x256, .i32⟩
  | .local _ .vmem, ⟨38, _⟩ => ⟨S8x32x256, .i32⟩
  | .local _ .vmem, ⟨39, _⟩ => ⟨S8x32x256, .i32⟩
  | .local _ .vmem, ⟨40, _⟩ => ⟨S8x32x256, .f32⟩
  | .local _ .vmem, ⟨41, _⟩ => ⟨S8x32x256, .f32⟩
  | .local _ .vmem, ⟨42, _⟩ => ⟨S8x32x16x256, .f32⟩
  | .local _ .vmem, ⟨43, _⟩ => ⟨S8x32x16x256, .f32⟩
  | .local _ .vmem, ⟨44, _⟩ => ⟨S8x32x4x256, .f32⟩
  | .local _ .vmem, ⟨45, _⟩ => ⟨S8x32x4x256, .f32⟩
  | .local _ .vmem, ⟨46, _⟩ => ⟨S8x32x4x256, .i32⟩
  | .local _ .vmem, ⟨47, _⟩ => ⟨S8x32x4x256, .i32⟩
  | .local _ .vmem, ⟨48, _⟩ => ⟨S8x32x4x256, .i32⟩
  | .local _ .vmem, ⟨49, _⟩ => ⟨S8x32x4x256, .i32⟩
  | .local _ .vmem, ⟨50, _⟩ => ⟨S8x32x4x8x256, .f32⟩
  | .local _ .vmem, ⟨51, _⟩ => ⟨S8x32x4x8x256, .f32⟩
  | .local _ .vmem, ⟨52, _⟩ => ⟨S8x256, .i32⟩
  | .local _ .vmem, ⟨53, _⟩ => ⟨S8x256, .i32⟩
  | .local _ .vmem, ⟨54, _⟩ => ⟨S8x256, .i32⟩
  | .local _ .vmem, ⟨55, _⟩ => ⟨S8x256, .i32⟩
  | .local _ .vmem, ⟨56, _⟩ => ⟨S8x256, .f32⟩
  | .local _ .vmem, ⟨57, _⟩ => ⟨S8x256, .f32⟩
  | .local _ .vmem, ⟨58, _⟩ => ⟨S8x256, .f32⟩
  | .local _ .vmem, ⟨59, _⟩ => ⟨S8x256, .f32⟩
  | .local _ .vmem, ⟨60, _⟩ => ⟨S8x256, .f32⟩
  | .local _ .vmem, ⟨61, _⟩ => ⟨S8x256, .f32⟩
  | .local _ .vmem, ⟨62, _⟩ => ⟨S8x256, .i32⟩
  | .local _ .vmem, ⟨63, _⟩ => ⟨S8x256, .i32⟩
  | .local _ .vmem, ⟨64, _⟩ => ⟨S1x256, .i32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38_0 : Ref sig .tc := ⟨.hbm, 62, rfl⟩
abbrev main_v38_1 : Ref sig .tc := ⟨.hbm, 63, rfl⟩
abbrev main_v38_2 : Ref sig .tc := ⟨.hbm, 64, rfl⟩
abbrev main_v38_3 : Ref sig .tc := ⟨.hbm, 65, rfl⟩
abbrev main_v38_4 : Ref sig .tc := ⟨.hbm, 66, rfl⟩
abbrev main_v38_5 : Ref sig .tc := ⟨.hbm, 67, rfl⟩
abbrev main_v38_6 : Ref sig .tc := ⟨.hbm, 68, rfl⟩
abbrev main_v38_7 : Ref sig .tc := ⟨.hbm, 69, rfl⟩
abbrev main_v38_8 : Ref sig .tc := ⟨.hbm, 70, rfl⟩
abbrev main_v38_9 : Ref sig .tc := ⟨.hbm, 71, rfl⟩
abbrev main_v38_10 : Ref sig .tc := ⟨.hbm, 72, rfl⟩
abbrev main_v38_11 : Ref sig .tc := ⟨.hbm, 73, rfl⟩
abbrev main_v38_12 : Ref sig .tc := ⟨.hbm, 74, rfl⟩
abbrev main_v38_13 : Ref sig .tc := ⟨.hbm, 75, rfl⟩
abbrev main_v38_14 : Ref sig .tc := ⟨.hbm, 76, rfl⟩
abbrev main_v38_15 : Ref sig .tc := ⟨.hbm, 77, rfl⟩
abbrev main_v38_16 : Ref sig .tc := ⟨.hbm, 78, rfl⟩
abbrev main_v38_17 : Ref sig .tc := ⟨.hbm, 79, rfl⟩
abbrev main_v38_18 : Ref sig .tc := ⟨.hbm, 80, rfl⟩
abbrev main_v38_19 : Ref sig .tc := ⟨.hbm, 81, rfl⟩
abbrev main_v38_20 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg24_1 : Ref sig .tc := ⟨.vmem, 25, rfl⟩
abbrev cc0_stg25_0 : Ref sig .tc := ⟨.vmem, 26, rfl⟩
abbrev cc0_stg25_1 : Ref sig .tc := ⟨.vmem, 27, rfl⟩
abbrev cc0_stg26_0 : Ref sig .tc := ⟨.vmem, 28, rfl⟩
abbrev cc0_stg26_1 : Ref sig .tc := ⟨.vmem, 29, rfl⟩
abbrev cc0_stg27_0 : Ref sig .tc := ⟨.vmem, 30, rfl⟩
abbrev cc0_stg27_1 : Ref sig .tc := ⟨.vmem, 31, rfl⟩
abbrev cc0_stg28_0 : Ref sig .tc := ⟨.vmem, 32, rfl⟩
abbrev cc0_stg28_1 : Ref sig .tc := ⟨.vmem, 33, rfl⟩
abbrev cc0_stg29_0 : Ref sig .tc := ⟨.vmem, 34, rfl⟩
abbrev cc0_stg29_1 : Ref sig .tc := ⟨.vmem, 35, rfl⟩
abbrev cc0_stg30_0 : Ref sig .tc := ⟨.vmem, 36, rfl⟩
abbrev cc0_stg30_1 : Ref sig .tc := ⟨.vmem, 37, rfl⟩
abbrev cc0_stg31_0 : Ref sig .tc := ⟨.vmem, 38, rfl⟩
abbrev cc0_stg31_1 : Ref sig .tc := ⟨.vmem, 39, rfl⟩
abbrev cc0_stg32_0 : Ref sig .tc := ⟨.vmem, 40, rfl⟩
abbrev cc0_stg32_1 : Ref sig .tc := ⟨.vmem, 41, rfl⟩
abbrev cc0_stg33_0 : Ref sig .tc := ⟨.vmem, 42, rfl⟩
abbrev cc0_stg33_1 : Ref sig .tc := ⟨.vmem, 43, rfl⟩
abbrev cc0_stg34_0 : Ref sig .tc := ⟨.vmem, 44, rfl⟩
abbrev cc0_stg34_1 : Ref sig .tc := ⟨.vmem, 45, rfl⟩
abbrev cc0_stg35_0 : Ref sig .tc := ⟨.vmem, 46, rfl⟩
abbrev cc0_stg35_1 : Ref sig .tc := ⟨.vmem, 47, rfl⟩
abbrev cc0_stg36_0 : Ref sig .tc := ⟨.vmem, 48, rfl⟩
abbrev cc0_stg36_1 : Ref sig .tc := ⟨.vmem, 49, rfl⟩
abbrev cc0_stg37_0 : Ref sig .tc := ⟨.vmem, 50, rfl⟩
abbrev cc0_stg37_1 : Ref sig .tc := ⟨.vmem, 51, rfl⟩
abbrev cc0_stg38_0 : Ref sig .tc := ⟨.vmem, 52, rfl⟩
abbrev cc0_stg38_1 : Ref sig .tc := ⟨.vmem, 53, rfl⟩
abbrev cc0_stg39_0 : Ref sig .tc := ⟨.vmem, 54, rfl⟩
abbrev cc0_stg39_1 : Ref sig .tc := ⟨.vmem, 55, rfl⟩
abbrev cc0_stg40_0 : Ref sig .tc := ⟨.vmem, 56, rfl⟩
abbrev cc0_stg40_1 : Ref sig .tc := ⟨.vmem, 57, rfl⟩
abbrev cc0_stg41_0 : Ref sig .tc := ⟨.vmem, 58, rfl⟩
abbrev cc0_stg41_1 : Ref sig .tc := ⟨.vmem, 59, rfl⟩
abbrev cc0_stg42_0 : Ref sig .tc := ⟨.vmem, 60, rfl⟩
abbrev cc0_stg42_1 : Ref sig .tc := ⟨.vmem, 61, rfl⟩
abbrev cc0_stg43_0 : Ref sig .tc := ⟨.vmem, 62, rfl⟩
abbrev cc0_stg43_1 : Ref sig .tc := ⟨.vmem, 63, rfl⟩
abbrev cc0_stg44_0 : Ref sig .tc := ⟨.vmem, 64, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem24_1 : DmaSem sig := 25
abbrev cc0_sem25_0 : DmaSem sig := 26
abbrev cc0_sem25_1 : DmaSem sig := 27
abbrev cc0_sem26_0 : DmaSem sig := 28
abbrev cc0_sem26_1 : DmaSem sig := 29
abbrev cc0_sem27_0 : DmaSem sig := 30
abbrev cc0_sem27_1 : DmaSem sig := 31
abbrev cc0_sem28_0 : DmaSem sig := 32
abbrev cc0_sem28_1 : DmaSem sig := 33
abbrev cc0_sem29_0 : DmaSem sig := 34
abbrev cc0_sem29_1 : DmaSem sig := 35
abbrev cc0_sem30_0 : DmaSem sig := 36
abbrev cc0_sem30_1 : DmaSem sig := 37
abbrev cc0_sem31_0 : DmaSem sig := 38
abbrev cc0_sem31_1 : DmaSem sig := 39
abbrev cc0_sem32_0 : DmaSem sig := 40
abbrev cc0_sem32_1 : DmaSem sig := 41
abbrev cc0_sem33_0 : DmaSem sig := 42
abbrev cc0_sem33_1 : DmaSem sig := 43
abbrev cc0_sem34_0 : DmaSem sig := 44
abbrev cc0_sem34_1 : DmaSem sig := 45
abbrev cc0_sem35_0 : DmaSem sig := 46
abbrev cc0_sem35_1 : DmaSem sig := 47
abbrev cc0_sem36_0 : DmaSem sig := 48
abbrev cc0_sem36_1 : DmaSem sig := 49
abbrev cc0_sem37_0 : DmaSem sig := 50
abbrev cc0_sem37_1 : DmaSem sig := 51
abbrev cc0_sem38_0 : DmaSem sig := 52
abbrev cc0_sem38_1 : DmaSem sig := 53
abbrev cc0_sem39_0 : DmaSem sig := 54
abbrev cc0_sem39_1 : DmaSem sig := 55
abbrev cc0_sem40_0 : DmaSem sig := 56
abbrev cc0_sem40_1 : DmaSem sig := 57
abbrev cc0_sem41_0 : DmaSem sig := 58
abbrev cc0_sem41_1 : DmaSem sig := 59
abbrev cc0_sem42_0 : DmaSem sig := 60
abbrev cc0_sem42_1 : DmaSem sig := 61
abbrev cc0_sem43_0 : DmaSem sig := 62
abbrev cc0_sem43_1 : DmaSem sig := 63
abbrev cc0_sem44_0 : DmaSem sig := 64

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_151 : BitVec 32 := 0#32
  let v197 : BitVec 1 := Scalar.cmpi .eq arg0 c0_i32_151
  let v198 : BitVec 32 := Scalar.extui v197
  let c0_i32_152 : BitVec 32 := 0#32
  let v199 : BitVec 1 := Scalar.cmpi .ne v198 c0_i32_152
  v199

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_23 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_34 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_35 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_36 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_37 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x64x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32x16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32x4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32x4x256 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32x4x256 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32x4x8x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1x256 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1x1x256 .i32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1x1x1x256 .i32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S8x64x256 .i32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x64x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x64x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x64x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S8x32x256 .i32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S8x32x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S8x32x256 .i32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S8x32x256 .i32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S8x32x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S8x32x16x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S8x32x4x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S8x32x4x256 .i32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S8x32x4x256 .i32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S8x32x4x8x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S8x256 .i32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S8x256 .i32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S8x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S8x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S8x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S8x256 .i32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 1 → Memref sig .tc .vmem S1x256 .i32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false]
-- ==== ReferenceIdeal.lean ====
abbrev S256 : Shape := ⟨1, ![256]⟩
abbrev S256x64 : Shape := ⟨2, ![256, 64]⟩
abbrev S256x32 : Shape := ⟨2, ![256, 32]⟩
abbrev S256x32x16 : Shape := ⟨3, ![256, 32, 16]⟩
abbrev S256x32x4 : Shape := ⟨3, ![256, 32, 4]⟩
abbrev S256x32x4x8 : Shape := ⟨4, ![256, 32, 4, 8]⟩
abbrev S_ : Shape := ⟨0, ![]⟩
abbrev S256x1 : Shape := ⟨2, ![256, 1]⟩
abbrev S256x64x64 : Shape := ⟨3, ![256, 64, 64]⟩
abbrev S256x2 : Shape := ⟨2, ![256, 2]⟩
abbrev S256x64x32 : Shape := ⟨3, ![256, 64, 32]⟩
abbrev S256x64x32x16 : Shape := ⟨4, ![256, 64, 32, 16]⟩
abbrev S256x64x32x4 : Shape := ⟨4, ![256, 64, 32, 4]⟩
abbrev S256x64x32x4x8 : Shape := ⟨5, ![256, 64, 32, 4, 8]⟩

abbrev nBuf : Space → Nat
  | .hbm => 484
  | .vmem => 0
  | .smem => 0
  | _ => 0

abbrev hbmTy0_0 (i : Nat) : BufTy := match i % 128 with
  | 0 => ⟨S256, .i32⟩
  | 1 => ⟨S256, .i32⟩
  | 2 => ⟨S256x64, .i32⟩
  | 3 => ⟨S256x64, .f32⟩
  | 4 => ⟨S256x64, .f32⟩
  | 5 => ⟨S256x64, .f32⟩
  | 6 => ⟨S256, .i32⟩
  | 7 => ⟨S256, .i32⟩
  | 8 => ⟨S256x32, .i32⟩
  | 9 => ⟨S256x32x16, .f32⟩
  | 10 => ⟨S256x32, .f32⟩
  | 11 => ⟨S256x32, .i32⟩
  | 12 => ⟨S256x32, .i32⟩
  | 13 => ⟨S256x32x4, .f32⟩
  | 14 => ⟨S256x32x4, .i32⟩
  | 15 => ⟨S256x32x4x8, .f32⟩
  | 16 => ⟨S256x32, .f32⟩
  | 17 => ⟨S256x32x4, .i32⟩
  | 18 => ⟨S256x32x4, .i1⟩
  | 19 => ⟨S256x32x4, .i1⟩
  | 20 => ⟨S256, .f32⟩
  | 21 => ⟨S256, .f32⟩
  | 22 => ⟨S256, .f32⟩
  | 23 => ⟨S256, .i32⟩
  | 24 => ⟨S_, .i32⟩
  | 25 => ⟨S256, .i32⟩
  | 26 => ⟨S256, .i1⟩
  | 27 => ⟨S_, .i32⟩
  | 28 => ⟨S256, .i32⟩
  | 29 => ⟨S256, .i32⟩
  | 30 => ⟨S256, .i32⟩
  | 31 => ⟨S256x1, .i32⟩
  | 32 => ⟨S256, .i32⟩
  | 33 => ⟨S_, .i32⟩
  | 34 => ⟨S256x64x64, .i32⟩
  | 35 => ⟨S_, .i32⟩
  | 36 => ⟨S256, .i32⟩
  | 37 => ⟨S256, .i1⟩
  | 38 => ⟨S_, .i32⟩
  | 39 => ⟨S256, .i32⟩
  | 40 => ⟨S256, .i32⟩
  | 41 => ⟨S256, .i32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S256x1, .i32⟩
  | 50 => ⟨S256x1, .i32⟩
  | 51 => ⟨S256x2, .i32⟩
  | 52 => ⟨S256x64x64, .i32⟩
  | 53 => ⟨S_, .f32⟩
  | 54 => ⟨S256x64x64, .f32⟩
  | 55 => ⟨S_, .i32⟩
  | 56 => ⟨S256, .i32⟩
  | 57 => ⟨S256, .i1⟩
  | 58 => ⟨S_, .i32⟩
  | 59 => ⟨S256, .i32⟩
  | 60 => ⟨S256, .i32⟩
  | 61 => ⟨S256, .i32⟩
  | 62 => ⟨S_, .i32⟩
  | 63 => ⟨S256, .i32⟩
  | 64 => ⟨S256, .i1⟩
  | 65 => ⟨S_, .i32⟩
  | 66 => ⟨S256, .i32⟩
  | 67 => ⟨S256, .i32⟩
  | 68 => ⟨S256, .i32⟩
  | 69 => ⟨S256x1, .i32⟩
  | 70 => ⟨S256x1, .i32⟩
  | 71 => ⟨S256x2, .i32⟩
  | 72 => ⟨S256x64x64, .f32⟩
  | 73 => ⟨S_, .f32⟩
  | 74 => ⟨S256x64x64, .f32⟩
  | 75 => ⟨S_, .i32⟩
  | 76 => ⟨S256, .i32⟩
  | 77 => ⟨S256, .i1⟩
  | 78 => ⟨S_, .i32⟩
  | 79 => ⟨S256, .i32⟩
  | 80 => ⟨S256, .i32⟩
  | 81 => ⟨S256, .i32⟩
  | 82 => ⟨S_, .i32⟩
  | 83 => ⟨S256, .i32⟩
  | 84 => ⟨S256, .i1⟩
  | 85 => ⟨S_, .i32⟩
  | 86 => ⟨S256, .i32⟩
  | 87 => ⟨S256, .i32⟩
  | 88 => ⟨S256, .i32⟩
  | 89 => ⟨S256x1, .i32⟩
  | 90 => ⟨S256x1, .i32⟩
  | 91 => ⟨S256x2, .i32⟩
  | 92 => ⟨S256x64x64, .f32⟩
  | 93 => ⟨S_, .f32⟩
  | 94 => ⟨S256x64x64, .f32⟩
  | 95 => ⟨S_, .i32⟩
  | 96 => ⟨S256, .i32⟩
  | 97 => ⟨S256, .i1⟩
  | 98 => ⟨S_, .i32⟩
  | 99 => ⟨S256, .i32⟩
  | 100 => ⟨S256, .i32⟩
  | 101 => ⟨S256, .i32⟩
  | 102 => ⟨S_, .i32⟩
  | 103 => ⟨S256, .i32⟩
  | 104 => ⟨S256, .i1⟩
  | 105 => ⟨S_, .i32⟩
  | 106 => ⟨S256, .i32⟩
  | 107 => ⟨S256, .i32⟩
  | 108 => ⟨S256, .i32⟩
  | 109 => ⟨S256x1, .i32⟩
  | 110 => ⟨S256x1, .i32⟩
  | 111 => ⟨S256x2, .i32⟩
  | 112 => ⟨S256x64x64, .f32⟩
  | 113 => ⟨S_, .i32⟩
  | 114 => ⟨S256x64, .i32⟩
  | 115 => ⟨S_, .i32⟩
  | 116 => ⟨S256, .i32⟩
  | 117 => ⟨S256, .i1⟩
  | 118 => ⟨S_, .i32⟩
  | 119 => ⟨S256, .i32⟩
  | 120 => ⟨S256, .i32⟩
  | 121 => ⟨S256, .i32⟩
  | 122 => ⟨S_, .i32⟩
  | 123 => ⟨S256, .i32⟩
  | 124 => ⟨S256, .i1⟩
  | 125 => ⟨S_, .i32⟩
  | 126 => ⟨S256, .i32⟩
  | 127 => ⟨S256, .i32⟩
  | _ => ⟨S256, .i32⟩

abbrev hbmTy0_1 (i : Nat) : BufTy := match i % 128 with
  | 0 => ⟨S256, .i32⟩
  | 1 => ⟨S256x1, .i32⟩
  | 2 => ⟨S256x1, .i32⟩
  | 3 => ⟨S256x2, .i32⟩
  | 4 => ⟨S256x64, .i32⟩
  | 5 => ⟨S_, .i32⟩
  | 6 => ⟨S256x64, .i32⟩
  | 7 => ⟨S_, .i32⟩
  | 8 => ⟨S256, .i32⟩
  | 9 => ⟨S256, .i1⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S_, .i32⟩
  | 18 => ⟨S256, .i32⟩
  | 19 => ⟨S256, .i32⟩
  | 20 => ⟨S256, .i32⟩
  | 21 => ⟨S256x1, .i32⟩
  | 22 => ⟨S256x1, .i32⟩
  | 23 => ⟨S256x2, .i32⟩
  | 24 => ⟨S256x64, .i32⟩
  | 25 => ⟨S_, .i32⟩
  | 26 => ⟨S256x64x32, .i32⟩
  | 27 => ⟨S_, .i32⟩
  | 28 => ⟨S256, .i32⟩
  | 29 => ⟨S256, .i1⟩
  | 30 => ⟨S_, .i32⟩
  | 31 => ⟨S256, .i32⟩
  | 32 => ⟨S256, .i32⟩
  | 33 => ⟨S256, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x1, .i32⟩
  | 43 => ⟨S256x2, .i32⟩
  | 44 => ⟨S256x64x32, .i32⟩
  | 45 => ⟨S_, .f32⟩
  | 46 => ⟨S256x64x32x16, .f32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S256x1, .i32⟩
  | 63 => ⟨S256x2, .i32⟩
  | 64 => ⟨S256x64x32x16, .f32⟩
  | 65 => ⟨S_, .f32⟩
  | 66 => ⟨S256x64x32, .f32⟩
  | 67 => ⟨S_, .i32⟩
  | 68 => ⟨S256, .i32⟩
  | 69 => ⟨S256, .i1⟩
  | 70 => ⟨S_, .i32⟩
  | 71 => ⟨S256, .i32⟩
  | 72 => ⟨S256, .i32⟩
  | 73 => ⟨S256, .i32⟩
  | 74 => ⟨S_, .i32⟩
  | 75 => ⟨S256, .i32⟩
  | 76 => ⟨S256, .i1⟩
  | 77 => ⟨S_, .i32⟩
  | 78 => ⟨S256, .i32⟩
  | 79 => ⟨S256, .i32⟩
  | 80 => ⟨S256, .i32⟩
  | 81 => ⟨S256x1, .i32⟩
  | 82 => ⟨S256x1, .i32⟩
  | 83 => ⟨S256x2, .i32⟩
  | 84 => ⟨S256x64x32, .f32⟩
  | 85 => ⟨S_, .i32⟩
  | 86 => ⟨S256x64x32, .i32⟩
  | 87 => ⟨S_, .i32⟩
  | 88 => ⟨S256, .i32⟩
  | 89 => ⟨S256, .i1⟩
  | 90 => ⟨S_, .i32⟩
  | 91 => ⟨S256, .i32⟩
  | 92 => ⟨S256, .i32⟩
  | 93 => ⟨S256, .i32⟩
  | 94 => ⟨S_, .i32⟩
  | 95 => ⟨S256, .i32⟩
  | 96 => ⟨S256, .i1⟩
  | 97 => ⟨S_, .i32⟩
  | 98 => ⟨S256, .i32⟩
  | 99 => ⟨S256, .i32⟩
  | 100 => ⟨S256, .i32⟩
  | 101 => ⟨S256x1, .i32⟩
  | 102 => ⟨S256x1, .i32⟩
  | 103 => ⟨S256x2, .i32⟩
  | 104 => ⟨S256x64x32, .i32⟩
  | 105 => ⟨S_, .i32⟩
  | 106 => ⟨S256x64x32, .i32⟩
  | 107 => ⟨S_, .i32⟩
  | 108 => ⟨S256, .i32⟩
  | 109 => ⟨S256, .i1⟩
  | 110 => ⟨S_, .i32⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S256, .i32⟩
  | 121 => ⟨S256x1, .i32⟩
  | 122 => ⟨S256x1, .i32⟩
  | 123 => ⟨S256x2, .i32⟩
  | 124 => ⟨S256x64x32, .i32⟩
  | 125 => ⟨S_, .f32⟩
  | 126 => ⟨S256x64x32x4, .f32⟩
  | 127 => ⟨S_, .i32⟩
  | _ => ⟨S256, .i32⟩

abbrev hbmTy0_2 (i : Nat) : BufTy := match i % 128 with
  | 0 => ⟨S256, .i32⟩
  | 1 => ⟨S256, .i1⟩
  | 2 => ⟨S_, .i32⟩
  | 3 => ⟨S256, .i32⟩
  | 4 => ⟨S256, .i32⟩
  | 5 => ⟨S256, .i32⟩
  | 6 => ⟨S_, .i32⟩
  | 7 => ⟨S256, .i32⟩
  | 8 => ⟨S256, .i1⟩
  | 9 => ⟨S_, .i32⟩
  | 10 => ⟨S256, .i32⟩
  | 11 => ⟨S256, .i32⟩
  | 12 => ⟨S256, .i32⟩
  | 13 => ⟨S256x1, .i32⟩
  | 14 => ⟨S256x1, .i32⟩
  | 15 => ⟨S256x2, .i32⟩
  | 16 => ⟨S256x64x32x4, .f32⟩
  | 17 => ⟨S_, .i32⟩
  | 18 => ⟨S256x64x32x4, .i32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S_, .i32⟩
  | 27 => ⟨S256, .i32⟩
  | 28 => ⟨S256, .i1⟩
  | 29 => ⟨S_, .i32⟩
  | 30 => ⟨S256, .i32⟩
  | 31 => ⟨S256, .i32⟩
  | 32 => ⟨S256, .i32⟩
  | 33 => ⟨S256x1, .i32⟩
  | 34 => ⟨S256x1, .i32⟩
  | 35 => ⟨S256x2, .i32⟩
  | 36 => ⟨S256x64x32x4, .i32⟩
  | 37 => ⟨S_, .f32⟩
  | 38 => ⟨S256x64x32x4x8, .f32⟩
  | 39 => ⟨S_, .i32⟩
  | 40 => ⟨S256, .i32⟩
  | 41 => ⟨S256, .i1⟩
  | 42 => ⟨S_, .i32⟩
  | 43 => ⟨S256, .i32⟩
  | 44 => ⟨S256, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S256x1, .i32⟩
  | 55 => ⟨S256x2, .i32⟩
  | 56 => ⟨S256x64x32x4x8, .f32⟩
  | 57 => ⟨S_, .f32⟩
  | 58 => ⟨S256x64x32, .f32⟩
  | 59 => ⟨S_, .i32⟩
  | 60 => ⟨S256, .i32⟩
  | 61 => ⟨S256, .i1⟩
  | 62 => ⟨S_, .i32⟩
  | 63 => ⟨S256, .i32⟩
  | 64 => ⟨S256, .i32⟩
  | 65 => ⟨S256, .i32⟩
  | 66 => ⟨S_, .i32⟩
  | 67 => ⟨S256, .i32⟩
  | 68 => ⟨S256, .i1⟩
  | 69 => ⟨S_, .i32⟩
  | 70 => ⟨S256, .i32⟩
  | 71 => ⟨S256, .i32⟩
  | 72 => ⟨S256, .i32⟩
  | 73 => ⟨S256x1, .i32⟩
  | 74 => ⟨S256x1, .i32⟩
  | 75 => ⟨S256x2, .i32⟩
  | 76 => ⟨S256x64x32, .f32⟩
  | 77 => ⟨S_, .i32⟩
  | 78 => ⟨S256x64x32x4, .i32⟩
  | 79 => ⟨S_, .i32⟩
  | 80 => ⟨S256, .i32⟩
  | 81 => ⟨S256, .i1⟩
  | 82 => ⟨S_, .i32⟩
  | 83 => ⟨S256, .i32⟩
  | 84 => ⟨S256, .i32⟩
  | 85 => ⟨S256, .i32⟩
  | 86 => ⟨S_, .i32⟩
  | 87 => ⟨S256, .i32⟩
  | 88 => ⟨S256, .i1⟩
  | 89 => ⟨S_, .i32⟩
  | 90 => ⟨S256, .i32⟩
  | 91 => ⟨S256, .i32⟩
  | 92 => ⟨S256, .i32⟩
  | 93 => ⟨S256x1, .i32⟩
  | 94 => ⟨S256x1, .i32⟩
  | 95 => ⟨S256x2, .i32⟩
  | 96 => ⟨S256x64x32x4, .i32⟩
  | 97 => ⟨S_, .i1⟩
  | 98 => ⟨S256x64x32x4, .i1⟩
  | 99 => ⟨S_, .i32⟩
  | 100 => ⟨S256, .i32⟩
  | 101 => ⟨S256, .i1⟩
  | 102 => ⟨S_, .i32⟩
  | 103 => ⟨S256, .i32⟩
  | 104 => ⟨S256, .i32⟩
  | 105 => ⟨S256, .i32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S256x1, .i32⟩
  | 114 => ⟨S256x1, .i32⟩
  | 115 => ⟨S256x2, .i32⟩
  | 116 => ⟨S256x64x32x4, .i1⟩
  | 117 => ⟨S_, .i1⟩
  | 118 => ⟨S256x64x32x4, .i1⟩
  | 119 => ⟨S_, .i32⟩
  | 120 => ⟨S256, .i32⟩
  | 121 => ⟨S256, .i1⟩
  | 122 => ⟨S_, .i32⟩
  | 123 => ⟨S256, .i32⟩
  | 124 => ⟨S256, .i32⟩
  | 125 => ⟨S256, .i32⟩
  | 126 => ⟨S_, .i32⟩
  | 127 => ⟨S256, .i32⟩
  | _ => ⟨S256, .i32⟩

abbrev hbmTy0_3 (i : Nat) : BufTy := match i % 128 with
  | 0 => ⟨S256, .i1⟩
  | 1 => ⟨S_, .i32⟩
  | 2 => ⟨S256, .i32⟩
  | 3 => ⟨S256, .i32⟩
  | 4 => ⟨S256, .i32⟩
  | 5 => ⟨S256x1, .i32⟩
  | 6 => ⟨S256x1, .i32⟩
  | 7 => ⟨S256x2, .i32⟩
  | 8 => ⟨S256x64x32x4, .i1⟩
  | 9 => ⟨S_, .f32⟩
  | 10 => ⟨S256x64, .f32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S_, .i32⟩
  | 19 => ⟨S256, .i32⟩
  | 20 => ⟨S256, .i1⟩
  | 21 => ⟨S_, .i32⟩
  | 22 => ⟨S256, .i32⟩
  | 23 => ⟨S256, .i32⟩
  | 24 => ⟨S256, .i32⟩
  | 25 => ⟨S256x1, .i32⟩
  | 26 => ⟨S256x1, .i32⟩
  | 27 => ⟨S256x2, .i32⟩
  | 28 => ⟨S256x64, .f32⟩
  | 29 => ⟨S_, .f32⟩
  | 30 => ⟨S256x64, .f32⟩
  | 31 => ⟨S_, .i32⟩
  | 32 => ⟨S256, .i32⟩
  | 33 => ⟨S256, .i1⟩
  | 34 => ⟨S_, .i32⟩
  | 35 => ⟨S256, .i32⟩
  | 36 => ⟨S256, .i32⟩
  | 37 => ⟨S256, .i32⟩
  | 38 => ⟨S_, .i32⟩
  | 39 => ⟨S256, .i32⟩
  | 40 => ⟨S256, .i1⟩
  | 41 => ⟨S_, .i32⟩
  | 42 => ⟨S256, .i32⟩
  | 43 => ⟨S256, .i32⟩
  | 44 => ⟨S256, .i32⟩
  | 45 => ⟨S256x1, .i32⟩
  | 46 => ⟨S256x1, .i32⟩
  | 47 => ⟨S256x2, .i32⟩
  | 48 => ⟨S256x64, .f32⟩
  | 49 => ⟨S_, .f32⟩
  | 50 => ⟨S256x64, .f32⟩
  | 51 => ⟨S_, .i32⟩
  | 52 => ⟨S256, .i32⟩
  | 53 => ⟨S256, .i1⟩
  | 54 => ⟨S_, .i32⟩
  | 55 => ⟨S256, .i32⟩
  | 56 => ⟨S256, .i32⟩
  | 57 => ⟨S256, .i32⟩
  | 58 => ⟨S_, .i32⟩
  | 59 => ⟨S256, .i32⟩
  | 60 => ⟨S256, .i1⟩
  | 61 => ⟨S_, .i32⟩
  | 62 => ⟨S256, .i32⟩
  | 63 => ⟨S256, .i32⟩
  | 64 => ⟨S256, .i32⟩
  | 65 => ⟨S256x1, .i32⟩
  | 66 => ⟨S256x1, .i32⟩
  | 67 => ⟨S256x2, .i32⟩
  | 68 => ⟨S256x64, .f32⟩
  | 69 => ⟨S_, .i32⟩
  | 70 => ⟨S256x64, .i32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S_, .i32⟩
  | 79 => ⟨S256, .i32⟩
  | 80 => ⟨S256, .i1⟩
  | 81 => ⟨S_, .i32⟩
  | 82 => ⟨S256, .i32⟩
  | 83 => ⟨S256, .i32⟩
  | 84 => ⟨S256, .i32⟩
  | 85 => ⟨S256x1, .i32⟩
  | 86 => ⟨S256x1, .i32⟩
  | 87 => ⟨S256x2, .i32⟩
  | 88 => ⟨S256x64, .i32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S_, .i32⟩
  | 98 => ⟨S256, .i32⟩
  | 99 => ⟨S256, .i32⟩
  | _ => ⟨S256, .i32⟩

abbrev hbmTy (i : Nat) : BufTy := match i / 128 with
  | 0 => hbmTy0_0 i
  | 1 => hbmTy0_1 i
  | 2 => hbmTy0_2 i
  | 3 => hbmTy0_3 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_4 : Ref sig .tc := ⟨.hbm, 42, rfl⟩
abbrev main_v13 : Ref sig .tc := ⟨.hbm, 43, rfl⟩
abbrev main_v14 : Ref sig .tc := ⟨.hbm, 44, rfl⟩
abbrev main_c_5 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst : Ref sig .tc := ⟨.hbm, 53, rfl⟩
abbrev main_v22 : Ref sig .tc := ⟨.hbm, 54, rfl⟩
abbrev main_c_6 : Ref sig .tc := ⟨.hbm, 55, rfl⟩
abbrev main_v23 : Ref sig .tc := ⟨.hbm, 56, rfl⟩
abbrev main_v24 : Ref sig .tc := ⟨.hbm, 57, rfl⟩
abbrev main_c_7 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_c_9 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_10 : Ref sig .tc := ⟨.hbm, 73, rfl⟩
abbrev main_v37 : Ref sig .tc := ⟨.hbm, 74, rfl⟩
abbrev main_c_11 : Ref sig .tc := ⟨.hbm, 75, rfl⟩
abbrev main_v38 : Ref sig .tc := ⟨.hbm, 76, rfl⟩
abbrev main_v39 : Ref sig .tc := ⟨.hbm, 77, rfl⟩
abbrev main_c_12 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_13 : Ref sig .tc := ⟨.hbm, 82, rfl⟩
abbrev main_v43 : Ref sig .tc := ⟨.hbm, 83, rfl⟩
abbrev main_v44 : Ref sig .tc := ⟨.hbm, 84, rfl⟩
abbrev main_c_14 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_15 : Ref sig .tc := ⟨.hbm, 93, rfl⟩
abbrev main_v52 : Ref sig .tc := ⟨.hbm, 94, rfl⟩
abbrev main_c_16 : Ref sig .tc := ⟨.hbm, 95, rfl⟩
abbrev main_v53 : Ref sig .tc := ⟨.hbm, 96, rfl⟩
abbrev main_v54 : Ref sig .tc := ⟨.hbm, 97, rfl⟩
abbrev main_c_17 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_18 : Ref sig .tc := ⟨.hbm, 102, rfl⟩
abbrev main_v58 : Ref sig .tc := ⟨.hbm, 103, rfl⟩
abbrev main_v59 : Ref sig .tc := ⟨.hbm, 104, rfl⟩
abbrev main_c_19 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_20 : Ref sig .tc := ⟨.hbm, 113, rfl⟩
abbrev main_v67 : Ref sig .tc := ⟨.hbm, 114, rfl⟩
abbrev main_c_21 : Ref sig .tc := ⟨.hbm, 115, rfl⟩
abbrev main_v68 : Ref sig .tc := ⟨.hbm, 116, rfl⟩
abbrev main_v69 : Ref sig .tc := ⟨.hbm, 117, rfl⟩
abbrev main_c_22 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_c_23 : Ref sig .tc := ⟨.hbm, 122, rfl⟩
abbrev main_v73 : Ref sig .tc := ⟨.hbm, 123, rfl⟩
abbrev main_v74 : Ref sig .tc := ⟨.hbm, 124, rfl⟩
abbrev main_c_24 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_25 : Ref sig .tc := ⟨.hbm, 133, rfl⟩
abbrev main_v82 : Ref sig .tc := ⟨.hbm, 134, rfl⟩
abbrev main_c_26 : Ref sig .tc := ⟨.hbm, 135, rfl⟩
abbrev main_v83 : Ref sig .tc := ⟨.hbm, 136, rfl⟩
abbrev main_v84 : Ref sig .tc := ⟨.hbm, 137, rfl⟩
abbrev main_c_27 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_28 : Ref sig .tc := ⟨.hbm, 142, rfl⟩
abbrev main_v88 : Ref sig .tc := ⟨.hbm, 143, rfl⟩
abbrev main_v89 : Ref sig .tc := ⟨.hbm, 144, rfl⟩
abbrev main_c_29 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_30 : Ref sig .tc := ⟨.hbm, 153, rfl⟩
abbrev main_v97 : Ref sig .tc := ⟨.hbm, 154, rfl⟩
abbrev main_c_31 : Ref sig .tc := ⟨.hbm, 155, rfl⟩
abbrev main_v98 : Ref sig .tc := ⟨.hbm, 156, rfl⟩
abbrev main_v99 : Ref sig .tc := ⟨.hbm, 157, rfl⟩
abbrev main_c_32 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_c_33 : Ref sig .tc := ⟨.hbm, 162, rfl⟩
abbrev main_v103 : Ref sig .tc := ⟨.hbm, 163, rfl⟩
abbrev main_v104 : Ref sig .tc := ⟨.hbm, 164, rfl⟩
abbrev main_c_34 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_35 : Ref sig .tc := ⟨.hbm, 173, rfl⟩
abbrev main_v112 : Ref sig .tc := ⟨.hbm, 174, rfl⟩
abbrev main_c_36 : Ref sig .tc := ⟨.hbm, 175, rfl⟩
abbrev main_v113 : Ref sig .tc := ⟨.hbm, 176, rfl⟩
abbrev main_v114 : Ref sig .tc := ⟨.hbm, 177, rfl⟩
abbrev main_c_37 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_c_38 : Ref sig .tc := ⟨.hbm, 182, rfl⟩
abbrev main_v118 : Ref sig .tc := ⟨.hbm, 183, rfl⟩
abbrev main_v119 : Ref sig .tc := ⟨.hbm, 184, rfl⟩
abbrev main_c_39 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_40 : Ref sig .tc := ⟨.hbm, 193, rfl⟩
abbrev main_v127 : Ref sig .tc := ⟨.hbm, 194, rfl⟩
abbrev main_c_41 : Ref sig .tc := ⟨.hbm, 195, rfl⟩
abbrev main_v128 : Ref sig .tc := ⟨.hbm, 196, rfl⟩
abbrev main_v129 : Ref sig .tc := ⟨.hbm, 197, rfl⟩
abbrev main_c_42 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_c_43 : Ref sig .tc := ⟨.hbm, 202, rfl⟩
abbrev main_v133 : Ref sig .tc := ⟨.hbm, 203, rfl⟩
abbrev main_v134 : Ref sig .tc := ⟨.hbm, 204, rfl⟩
abbrev main_c_44 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_c_45 : Ref sig .tc := ⟨.hbm, 213, rfl⟩
abbrev main_v142 : Ref sig .tc := ⟨.hbm, 214, rfl⟩
abbrev main_c_46 : Ref sig .tc := ⟨.hbm, 215, rfl⟩
abbrev main_v143 : Ref sig .tc := ⟨.hbm, 216, rfl⟩
abbrev main_v144 : Ref sig .tc := ⟨.hbm, 217, rfl⟩
abbrev main_c_47 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_c_48 : Ref sig .tc := ⟨.hbm, 222, rfl⟩
abbrev main_v148 : Ref sig .tc := ⟨.hbm, 223, rfl⟩
abbrev main_v149 : Ref sig .tc := ⟨.hbm, 224, rfl⟩
abbrev main_c_49 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_c_50 : Ref sig .tc := ⟨.hbm, 233, rfl⟩
abbrev main_v157 : Ref sig .tc := ⟨.hbm, 234, rfl⟩
abbrev main_c_51 : Ref sig .tc := ⟨.hbm, 235, rfl⟩
abbrev main_v158 : Ref sig .tc := ⟨.hbm, 236, rfl⟩
abbrev main_v159 : Ref sig .tc := ⟨.hbm, 237, rfl⟩
abbrev main_c_52 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_c_53 : Ref sig .tc := ⟨.hbm, 242, rfl⟩
abbrev main_v163 : Ref sig .tc := ⟨.hbm, 243, rfl⟩
abbrev main_v164 : Ref sig .tc := ⟨.hbm, 244, rfl⟩
abbrev main_c_54 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_cst_55 : Ref sig .tc := ⟨.hbm, 253, rfl⟩
abbrev main_v172 : Ref sig .tc := ⟨.hbm, 254, rfl⟩
abbrev main_c_56 : Ref sig .tc := ⟨.hbm, 255, rfl⟩
abbrev main_v173 : Ref sig .tc := ⟨.hbm, 256, rfl⟩
abbrev main_v174 : Ref sig .tc := ⟨.hbm, 257, rfl⟩
abbrev main_c_57 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_c_58 : Ref sig .tc := ⟨.hbm, 262, rfl⟩
abbrev main_v178 : Ref sig .tc := ⟨.hbm, 263, rfl⟩
abbrev main_v179 : Ref sig .tc := ⟨.hbm, 264, rfl⟩
abbrev main_c_59 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_c_60 : Ref sig .tc := ⟨.hbm, 273, rfl⟩
abbrev main_v187 : Ref sig .tc := ⟨.hbm, 274, rfl⟩
abbrev main_c_61 : Ref sig .tc := ⟨.hbm, 275, rfl⟩
abbrev main_v188 : Ref sig .tc := ⟨.hbm, 276, rfl⟩
abbrev main_v189 : Ref sig .tc := ⟨.hbm, 277, rfl⟩
abbrev main_c_62 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_c_63 : Ref sig .tc := ⟨.hbm, 282, rfl⟩
abbrev main_v193 : Ref sig .tc := ⟨.hbm, 283, rfl⟩
abbrev main_v194 : Ref sig .tc := ⟨.hbm, 284, rfl⟩
abbrev main_c_64 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_cst_65 : Ref sig .tc := ⟨.hbm, 293, rfl⟩
abbrev main_v202 : Ref sig .tc := ⟨.hbm, 294, rfl⟩
abbrev main_c_66 : Ref sig .tc := ⟨.hbm, 295, rfl⟩
abbrev main_v203 : Ref sig .tc := ⟨.hbm, 296, rfl⟩
abbrev main_v204 : Ref sig .tc := ⟨.hbm, 297, rfl⟩
abbrev main_c_67 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_c_68 : Ref sig .tc := ⟨.hbm, 302, rfl⟩
abbrev main_v208 : Ref sig .tc := ⟨.hbm, 303, rfl⟩
abbrev main_v209 : Ref sig .tc := ⟨.hbm, 304, rfl⟩
abbrev main_c_69 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_cst_70 : Ref sig .tc := ⟨.hbm, 313, rfl⟩
abbrev main_v217 : Ref sig .tc := ⟨.hbm, 314, rfl⟩
abbrev main_c_71 : Ref sig .tc := ⟨.hbm, 315, rfl⟩
abbrev main_v218 : Ref sig .tc := ⟨.hbm, 316, rfl⟩
abbrev main_v219 : Ref sig .tc := ⟨.hbm, 317, rfl⟩
abbrev main_c_72 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_c_73 : Ref sig .tc := ⟨.hbm, 322, rfl⟩
abbrev main_v223 : Ref sig .tc := ⟨.hbm, 323, rfl⟩
abbrev main_v224 : Ref sig .tc := ⟨.hbm, 324, rfl⟩
abbrev main_c_74 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_c_75 : Ref sig .tc := ⟨.hbm, 333, rfl⟩
abbrev main_v232 : Ref sig .tc := ⟨.hbm, 334, rfl⟩
abbrev main_c_76 : Ref sig .tc := ⟨.hbm, 335, rfl⟩
abbrev main_v233 : Ref sig .tc := ⟨.hbm, 336, rfl⟩
abbrev main_v234 : Ref sig .tc := ⟨.hbm, 337, rfl⟩
abbrev main_c_77 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_c_78 : Ref sig .tc := ⟨.hbm, 342, rfl⟩
abbrev main_v238 : Ref sig .tc := ⟨.hbm, 343, rfl⟩
abbrev main_v239 : Ref sig .tc := ⟨.hbm, 344, rfl⟩
abbrev main_c_79 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_c_80 : Ref sig .tc := ⟨.hbm, 353, rfl⟩
abbrev main_v247 : Ref sig .tc := ⟨.hbm, 354, rfl⟩
abbrev main_c_81 : Ref sig .tc := ⟨.hbm, 355, rfl⟩
abbrev main_v248 : Ref sig .tc := ⟨.hbm, 356, rfl⟩
abbrev main_v249 : Ref sig .tc := ⟨.hbm, 357, rfl⟩
abbrev main_c_82 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_c_83 : Ref sig .tc := ⟨.hbm, 362, rfl⟩
abbrev main_v253 : Ref sig .tc := ⟨.hbm, 363, rfl⟩
abbrev main_v254 : Ref sig .tc := ⟨.hbm, 364, rfl⟩
abbrev main_c_84 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_c_85 : Ref sig .tc := ⟨.hbm, 373, rfl⟩
abbrev main_v262 : Ref sig .tc := ⟨.hbm, 374, rfl⟩
abbrev main_c_86 : Ref sig .tc := ⟨.hbm, 375, rfl⟩
abbrev main_v263 : Ref sig .tc := ⟨.hbm, 376, rfl⟩
abbrev main_v264 : Ref sig .tc := ⟨.hbm, 377, rfl⟩
abbrev main_c_87 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_c_88 : Ref sig .tc := ⟨.hbm, 382, rfl⟩
abbrev main_v268 : Ref sig .tc := ⟨.hbm, 383, rfl⟩
abbrev main_v269 : Ref sig .tc := ⟨.hbm, 384, rfl⟩
abbrev main_c_89 : Ref sig .tc := ⟨.hbm, 385, rfl⟩
abbrev main_v270 : Ref sig .tc := ⟨.hbm, 386, rfl⟩
abbrev main_v271 : Ref sig .tc := ⟨.hbm, 387, rfl⟩
abbrev main_v272 : Ref sig .tc := ⟨.hbm, 388, rfl⟩
abbrev main_v273 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_cst_90 : Ref sig .tc := ⟨.hbm, 393, rfl⟩
abbrev main_v277 : Ref sig .tc := ⟨.hbm, 394, rfl⟩
abbrev main_c_91 : Ref sig .tc := ⟨.hbm, 395, rfl⟩
abbrev main_v278 : Ref sig .tc := ⟨.hbm, 396, rfl⟩
abbrev main_v279 : Ref sig .tc := ⟨.hbm, 397, rfl⟩
abbrev main_c_92 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_c_93 : Ref sig .tc := ⟨.hbm, 402, rfl⟩
abbrev main_v283 : Ref sig .tc := ⟨.hbm, 403, rfl⟩
abbrev main_v284 : Ref sig .tc := ⟨.hbm, 404, rfl⟩
abbrev main_c_94 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_cst_95 : Ref sig .tc := ⟨.hbm, 413, rfl⟩
abbrev main_v292 : Ref sig .tc := ⟨.hbm, 414, rfl⟩
abbrev main_c_96 : Ref sig .tc := ⟨.hbm, 415, rfl⟩
abbrev main_v293 : Ref sig .tc := ⟨.hbm, 416, rfl⟩
abbrev main_v294 : Ref sig .tc := ⟨.hbm, 417, rfl⟩
abbrev main_c_97 : Ref sig .tc := ⟨.hbm, 418, rfl⟩
abbrev main_v295 : Ref sig .tc := ⟨.hbm, 419, rfl⟩
abbrev main_v296 : Ref sig .tc := ⟨.hbm, 420, rfl⟩
abbrev main_v297 : Ref sig .tc := ⟨.hbm, 421, rfl⟩
abbrev main_c_98 : Ref sig .tc := ⟨.hbm, 422, rfl⟩
abbrev main_v298 : Ref sig .tc := ⟨.hbm, 423, rfl⟩
abbrev main_v299 : Ref sig .tc := ⟨.hbm, 424, rfl⟩
abbrev main_c_99 : Ref sig .tc := ⟨.hbm, 425, rfl⟩
abbrev main_v300 : Ref sig .tc := ⟨.hbm, 426, rfl⟩
abbrev main_v301 : Ref sig .tc := ⟨.hbm, 427, rfl⟩
abbrev main_v302 : Ref sig .tc := ⟨.hbm, 428, rfl⟩
abbrev main_v303 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_cst_100 : Ref sig .tc := ⟨.hbm, 433, rfl⟩
abbrev main_v307 : Ref sig .tc := ⟨.hbm, 434, rfl⟩
abbrev main_c_101 : Ref sig .tc := ⟨.hbm, 435, rfl⟩
abbrev main_v308 : Ref sig .tc := ⟨.hbm, 436, rfl⟩
abbrev main_v309 : Ref sig .tc := ⟨.hbm, 437, rfl⟩
abbrev main_c_102 : Ref sig .tc := ⟨.hbm, 438, rfl⟩
abbrev main_v310 : Ref sig .tc := ⟨.hbm, 439, rfl⟩
abbrev main_v311 : Ref sig .tc := ⟨.hbm, 440, rfl⟩
abbrev main_v312 : Ref sig .tc := ⟨.hbm, 441, rfl⟩
abbrev main_c_103 : Ref sig .tc := ⟨.hbm, 442, rfl⟩
abbrev main_v313 : Ref sig .tc := ⟨.hbm, 443, rfl⟩
abbrev main_v314 : Ref sig .tc := ⟨.hbm, 444, rfl⟩
abbrev main_c_104 : Ref sig .tc := ⟨.hbm, 445, rfl⟩
abbrev main_v315 : Ref sig .tc := ⟨.hbm, 446, rfl⟩
abbrev main_v316 : Ref sig .tc := ⟨.hbm, 447, rfl⟩
abbrev main_v317 : Ref sig .tc := ⟨.hbm, 448, rfl⟩
abbrev main_v318 : Ref sig .tc := ⟨.hbm, 449, rfl⟩
abbrev main_v319 : Ref sig .tc := ⟨.hbm, 450, rfl⟩
abbrev main_v320 : Ref sig .tc := ⟨.hbm, 451, rfl⟩
abbrev main_v321 : Ref sig .tc := ⟨.hbm, 452, rfl⟩
abbrev main_c_105 : Ref sig .tc := ⟨.hbm, 453, rfl⟩
abbrev main_v322 : Ref sig .tc := ⟨.hbm, 454, rfl⟩
abbrev main_c_106 : Ref sig .tc := ⟨.hbm, 455, rfl⟩
abbrev main_v323 : Ref sig .tc := ⟨.hbm, 456, rfl⟩
abbrev main_v324 : Ref sig .tc := ⟨.hbm, 457, rfl⟩
abbrev main_c_107 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_c_108 : Ref sig .tc := ⟨.hbm, 462, rfl⟩
abbrev main_v328 : Ref sig .tc := ⟨.hbm, 463, rfl⟩
abbrev main_v329 : Ref sig .tc := ⟨.hbm, 464, rfl⟩
abbrev main_c_109 : Ref sig .tc := ⟨.hbm, 465, rfl⟩
abbrev main_v330 : Ref sig .tc := ⟨.hbm, 466, rfl⟩
abbrev main_v331 : Ref sig .tc := ⟨.hbm, 467, rfl⟩
abbrev main_v332 : Ref sig .tc := ⟨.hbm, 468, rfl⟩
abbrev main_v333 : Ref sig .tc := ⟨.hbm, 469, rfl⟩
abbrev main_v334 : Ref sig .tc := ⟨.hbm, 470, rfl⟩
abbrev main_v335 : Ref sig .tc := ⟨.hbm, 471, rfl⟩
abbrev main_v336 : Ref sig .tc := ⟨.hbm, 472, rfl⟩
abbrev main_c_110 : Ref sig .tc := ⟨.hbm, 473, rfl⟩
abbrev main_v337 : Ref sig .tc := ⟨.hbm, 474, rfl⟩
abbrev main_v338 : Ref sig .tc := ⟨.hbm, 475, rfl⟩
abbrev main_c_111 : Ref sig .tc := ⟨.hbm, 476, rfl⟩
abbrev main_v339 : Ref sig .tc := ⟨.hbm, 477, rfl⟩
abbrev main_v340 : Ref sig .tc := ⟨.hbm, 478, rfl⟩
abbrev main_v341 : Ref sig .tc := ⟨.hbm, 479, rfl⟩
abbrev main_v342 : Ref sig .tc := ⟨.hbm, 480, rfl⟩
abbrev main_c_112 : Ref sig .tc := ⟨.hbm, 481, rfl⟩
abbrev main_v343 : Ref sig .tc := ⟨.hbm, 482, rfl⟩
abbrev main_v344 : Ref sig .tc := ⟨.hbm, 483, rfl⟩

abbrev nD : Nat := 1
abbrev τ : Topo := Topo.v7x

variable {F : FTy → Type} [FloatOps F]
-- ==== Proof.Held.lean ====
/-
  A family of buffers held whole, one per window, and the two steps a kernel takes on it: a load of a whole buffer
  reads what the family says it holds, a store of a whole buffer replaces that one entry. Nothing here names a program.
-/
module

public import Idealize.ShloMosaic.Lib.Pipeline.FrameBody
public import Idealize.ShloMosaic.Lib.Pipeline.Value
public import Idealize.ShloMosaic.Lib.Pipeline.TableIdle
public import Idealize.ShloMosaic.Lib.Tactic

@[expose] public section

noncomputable section

namespace Cert.Held

open Idealize.ShloMosaic Idealize.ShloMosaic.TcCoe Idealize.ShloMosaic.Tactic
open Idealize.SL Idealize.SL.RA
open Idealize.SL.BI (sProp)
open scoped Idealize.SL.BI
open Idealize.SL.BI Idealize.SL.BI.BIBase Idealize.SL.BI.Laws Idealize.SL.ProofMode Idealize.SL.Sem

variable {nD : ℕ} {τ : Topo} {sig : RefSig} {Val : EltTy → Type} [∀ e, Nonempty (Val e)]
variable {U : Type} [URA U]

local notation "𝕄" => MT nD τ sig Unit Val ℕ U ℕ

variable (c : Thread nD τ) {n : ℕ} {S : Fin n → Shape} {e : Fin n → EltTy} {sp : Fin n → Space}
variable (M : (w : Fin n) → Memref sig c.2.kind (sp w) (S w) (e w))

/-- Every buffer of the family held whole, buffer `w` at `f w`. -/
def held (f : (w : Fin n) → (S w).Idx → Val (e w)) : sProp 𝕄 :=
  bigSep Finset.univ fun w => owns c (M w) fullShare (f w)

/-- One buffer taken out of the family, to be given back at any contents. -/
theorem held_take (f : (w : Fin n) → (S w).Idx → Val (e w)) (w : Fin n) :
    (held c M f : sProp 𝕄) ⊢ iprop(owns c (M w) fullShare (f w)
      ∗ (∀ v, owns c (M w) fullShare v -∗ held c M (Function.update f w v))) := by
  unfold held
  have hsplit (g : (w : Fin n) → (S w).Idx → Val (e w)) :
      (bigSep Finset.univ fun w => (owns c (M w) fullShare (g w) : sProp 𝕄))
        = iprop(owns c (M w) fullShare (g w) ∗ bigSep (Finset.univ.erase w) fun w => owns c (M w) fullShare (g w)) :=
    bigSep_erase (Finset.mem_univ w)
  rw [hsplit]
  iintro ⟨H, R⟩
  isplitl [H]
  · iexact H
  iintro %v H
  rw [hsplit, Function.update_self]
  have hrest : (bigSep (Finset.univ.erase w) fun w' => (owns c (M w') fullShare (Function.update f w v w') : sProp 𝕄))
      = bigSep (Finset.univ.erase w) fun w' => owns c (M w') fullShare (f w') :=
    bigSep_congr fun w' hw' => by rw [Function.update_of_ne (Finset.ne_of_mem_erase hw')]
  rw [hrest]
  isplitl [H]
  · iexact H
  iexact R

/-- A load of a whole buffer reads what the buffer holds. -/
theorem readAt_full {κ : Kind} {s : Shape} {t : EltTy} {p : Space} (m : Memref sig κ p s t) {off : Fin s.rank → ℕ}
    (h : off = fun _ => 0) (inb : ∀ a, off a + s.size a ≤ s.size a) (f : m.view.ty.Contents Val) :
    m.view.readAt Val (Rect.unit off s.size inb).toLoadRect f = m.view.read Val f :=
  (show _ = View.ld (m.view.read Val f) (Rect.unit off s.size inb) from rfl).trans (View.ld_unit_zero h inb _)

/-- A store of a whole buffer leaves what it stored. -/
theorem read_write_full {κ : Kind} {s : Shape} {t : EltTy} {p : Space} (m : Memref sig κ p s t) {off : Fin s.rank → ℕ}
    (h : off = fun _ => 0) (inb : ∀ a, off a + s.size a ≤ s.size a) (f : m.view.ty.Contents Val) (v : s.Idx → Val t) :
    m.view.read Val ((m.access (Rect.unit off s.size inb)).write Val f v Finset.univ) = v :=
  (View.read_writes_eq_canon m.view f [(⟨Rect.unit off s.size inb, v⟩ : View.Piece Val s t)]
    fun y => ⟨_, List.mem_singleton_self _, View.mem_set_unit_zero h inb y⟩).trans (View.canon_unit_zero h inb v)

variable {Λ : Labels} (defs : Defs nD τ sig Val Λ) (𝒱 : Variants) {α : Type}

/-- A program that starts with a load of one whole buffer goes on at what the buffer holds. -/
theorem load_step {s : Shape} {t : EltTy} {p : CoreSpace} {m : Memref sig c.2.kind p s t} {off : Fin s.rank → ℕ}
    {inb : ∀ a, off a + s.size a ≤ s.size a} {hl : m.view.LoadsAt (Rect.unit off s.size inb).toLoadRect}
    {k : (s.Idx → Val t) → Prog (TpuEff nD τ sig Val Λ c.2) α} {Q : α → sProp 𝕄} {P : sProp 𝕄}
    (h0 : off = fun _ => 0) (x : s.Idx → Val t)
    (htake : P ⊢ iprop(owns c m fullShare x ∗ (owns c m fullShare x -∗ P)))
    (hk : P ⊢ wp frame (wpE defs 𝒱 c none) Set.univ (k x) Q) :
    P ⊢ wp frame (wpE defs 𝒱 c none) Set.univ (.op (.load m (Rect.unit off s.size inb).toLoadRect hl) k) Q := by
  refine htake.trans ?_
  unfold owns
  iintro ⟨⟨%f, %hf, H⟩, R⟩
  have hw := wp_load (defs := defs) 𝒱 c none (Γ := .empty) Set.univ (m := m) (r := (Rect.unit off s.size inb).toLoadRect)
    (hl := hl) (k := k) (Q := Q) (q := fullShare) (f := f) (S := m.view.set) (m.view.setOn_subset_set _)
  rw [readAt_full m h0 inb f, hf] at hw
  iapply hw $$ H
  iintro H
  iapply hk
  iapply R
  iexists f
  isplitr
  · ipureintro; exact hf
  iexact H

/-- A program that starts with a store of one whole buffer goes on with the buffer at what it stored. -/
theorem store_step {s : Shape} {t : EltTy} {p : CoreSpace} {m : Memref sig c.2.kind p s t} {off : Fin s.rank → ℕ}
    {inb : ∀ a, off a + s.size a ≤ s.size a} {v : s.Idx → Val t}
    {hs : (m.access (Rect.unit off s.size inb)).Stores Finset.univ} {hm}
    {k : PUnit → Prog (TpuEff nD τ sig Val Λ c.2) α} {Q : α → sProp 𝕄} {P P' : sProp 𝕄}
    (h0 : off = fun _ => 0) (x : s.Idx → Val t)
    (htake : P ⊢ iprop(owns c m fullShare x ∗ (owns c m fullShare v -∗ P')))
    (hk : P' ⊢ wp frame (wpE defs 𝒱 c none) Set.univ (k ⟨⟩) Q) :
    P ⊢ wp frame (wpE defs 𝒱 c none) Set.univ (.op (.store m (Rect.unit off s.size inb) v Finset.univ hs hm) k) Q := by
  refine htake.trans ?_
  unfold owns
  iintro ⟨⟨%f, %hf, H⟩, R⟩
  have hw := wp_store (defs := defs) 𝒱 c none (Γ := .empty) Set.univ (m := m) (r := Rect.unit off s.size inb) (w := v)
    (Mk := Finset.univ) (hx := hs) (hm := hm) (k := k) (Q := Q) (f := f) (S := m.view.set)
    (m.view.set_slice_subset _)
  iapply hw $$ H
  iintro H
  iapply hk
  iapply R
  iexists _
  isplitr
  · ipureintro; exact read_write_full m h0 inb f v
  iexact H

/-- Taking a buffer out to read it. -/
theorem held_load (f : (w : Fin n) → (S w).Idx → Val (e w)) (w : Fin n) :
    (held c M f : sProp 𝕄) ⊢ iprop(owns c (M w) fullShare (f w) ∗ (owns c (M w) fullShare (f w) -∗ held c M f)) := by
  refine (held_take c M f w).trans (sep_mono_right ?_)
  refine (forall_elim (f w)).trans ?_
  rw [Function.update_eq_self]

/-- Taking a buffer out to overwrite it, the family going from one state to another that differ there only. -/
theorem held_store (f g : (w : Fin n) → (S w).Idx → Val (e w)) (w : Fin n) (hg : ∀ w', w' ≠ w → g w' = f w') :
    (held c M f : sProp 𝕄) ⊢ iprop(owns c (M w) fullShare (f w) ∗ (owns c (M w) fullShare (g w) -∗ held c M g)) := by
  refine (held_take c M f w).trans (sep_mono_right ?_)
  refine (forall_elim (g w)).trans ?_
  have : Function.update f w (g w) = g := by
    funext w'
    by_cases h : w' = w
    · subst h; exact Function.update_self ..
    · rw [Function.update_of_ne h, hg w' h]
  rw [this]

/-- A sequence that has reached its value. -/
theorem pure_step {β : Type} {P : sProp 𝕄} {Q : β → sProp 𝕄} (x : β) (h : P ⊢ Q x) :
    P ⊢ wp frame (wpE defs 𝒱 c none) Set.univ (pure x : Prog (TpuEff nD τ sig Val Λ c.2) β) Q :=
  h.trans (le_wp_ret _ _ _ x Q)

/-- The two steps at the head of a sequence. -/
theorem load_bind {β : Type} {s : Shape} {t : EltTy} {p : CoreSpace} {m : Memref sig c.2.kind p s t} {off : Fin s.rank → ℕ}
    {inb : ∀ a, off a + s.size a ≤ s.size a} {hl : m.view.LoadsAt (Rect.unit off s.size inb).toLoadRect}
    {k : (s.Idx → Val t) → Prog (TpuEff nD τ sig Val Λ c.2) β} {Q : β → sProp 𝕄} {P : sProp 𝕄}
    (h0 : off = fun _ => 0) (x : s.Idx → Val t)
    (htake : P ⊢ iprop(owns c m fullShare x ∗ (owns c m fullShare x -∗ P)))
    (hk : P ⊢ wp frame (wpE defs 𝒱 c none) Set.univ (k x) Q) :
    P ⊢ wp frame (wpE defs 𝒱 c none) Set.univ
      (Prog.lift (.load m (Rect.unit off s.size inb).toLoadRect hl) >>= k) Q :=
  load_step c defs 𝒱 (k := fun x => Prog.ret x >>= k) h0 x htake hk

theorem store_bind {β : Type} {s : Shape} {t : EltTy} {p : CoreSpace} {m : Memref sig c.2.kind p s t} {off : Fin s.rank → ℕ}
    {inb : ∀ a, off a + s.size a ≤ s.size a} {v : s.Idx → Val t}
    {hs : (m.access (Rect.unit off s.size inb)).Stores Finset.univ} {hm}
    {k : PUnit → Prog (TpuEff nD τ sig Val Λ c.2) β} {Q : β → sProp 𝕄} {P P' : sProp 𝕄}
    (h0 : off = fun _ => 0) (x : s.Idx → Val t)
    (htake : P ⊢ iprop(owns c m fullShare x ∗ (owns c m fullShare v -∗ P')))
    (hk : P' ⊢ wp frame (wpE defs 𝒱 c none) Set.univ (k ⟨⟩) Q) :
    P ⊢ wp frame (wpE defs 𝒱 c none) Set.univ
      (Prog.lift (.store m (Rect.unit off s.size inb) v Finset.univ hs hm) >>= k) Q :=
  store_step c defs 𝒱 (k := fun x => Prog.ret x >>= k) h0 x htake hk

end Cert.Held
-- ==== Proof.Data.lean ====
/-
  What each buffer of the kernel holds after the body at each point: an input its block, an output the value the body
  stores, written with the kernel's own named values at the input blocks. The counter's output is the same at every
  point: it is stored at the first point only and stays in its buffer.
-/
module

public import proofs.«01_k».proof.Proof.Gen.KernelIdeal.Frame
public import proofs.«01_k».proof.Proof.Gen.KernelIdeal.Skeleton
public import proofs.«01_k».proof.Proof.Held

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev first : Fin cfg0.N := ⟨0, by decide⟩

/-- "This row of the block is the environment's current step", in the five ranks the body compares in. -/
abbrev mask2 (c : Dev nD) (t : Fin cfg0.N) : IVec S8x256 1 := k0_pay4 (grid0.coords t) (iblk m c 20 t)
abbrev mask3 (c : Dev nD) (t : Fin cfg0.N) : IVec S8x1x256 1 := k0_pay5 (grid0.coords t) (iblk m c 21 t)
abbrev mask4 (c : Dev nD) (t : Fin cfg0.N) : IVec S8x1x1x256 1 := k0_pay6 (grid0.coords t) (iblk m c 22 t)
abbrev mask5 (c : Dev nD) (t : Fin cfg0.N) : IVec S8x1x1x1x256 1 := k0_pay7 (grid0.coords t) (iblk m c 23 t)

/-- The pipeline's proof data: the arrays as the region finds them, and after the body every buffer as below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => k0_pay8 (grid0.coords t) (iblk m c 21 t) (iblk m c 0 t)
    | ⟨25, _⟩ => k0_pay9 (mask3 m c t) (iblk m c 1 t)
    | ⟨26, _⟩ => k0_pay10 (mask3 m c t) (iblk m c 2 t)
    | ⟨27, _⟩ => k0_pay11 (mask3 m c t) (iblk m c 3 t)
    | ⟨28, _⟩ => k0_pay14 (k0_pay12 (iblk m c 4 t)) 0#32 (k0_pay13 (mask3 m c t))
    | ⟨29, _⟩ => k0_pay15 (mask3 m c t) (iblk m c 5 t)
    | ⟨30, _⟩ => k0_pay16 (mask3 m c t) (iblk m c 6 t)
    | ⟨31, _⟩ => k0_pay17 (mask3 m c t) (iblk m c 7 t)
    | ⟨32, _⟩ => k0_pay18 (mask3 m c t) (iblk m c 8 t)
    | ⟨33, _⟩ => k0_pay19 (mask4 m c t) (iblk m c 9 t)
    | ⟨34, _⟩ => k0_pay20 (mask4 m c t) (iblk m c 10 t)
    | ⟨35, _⟩ => k0_pay21 (mask4 m c t) (iblk m c 11 t)
    | ⟨36, _⟩ => k0_pay22 (mask4 m c t) (iblk m c 12 t)
    | ⟨37, _⟩ => k0_pay23 (mask5 m c t) (iblk m c 13 t)
    | ⟨38, _⟩ => k0_pay25 (mask2 m c t) (k0_pay24 (iblk m c 14 t)) 0#32
    | ⟨39, _⟩ => k0_pay26 (mask2 m c t) (iblk m c 15 t)
    | ⟨40, _⟩ => k0_pay27 (mask2 m c t) (iblk m c 16 t)
    | ⟨41, _⟩ => k0_pay28 (mask2 m c t) (iblk m c 17 t)
    | ⟨42, _⟩ => k0_pay29 (mask2 m c t) (iblk m c 18 t)
    | ⟨43, _⟩ => k0_pay1 (mask2 m c t) (iblk m c 19 t)
    | ⟨44, _⟩ => k0_pay2 (k0_pay3 (iblk m c 20 first))
    | ⟨_ + 45, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-! Each input's buffer already holds its block when the body starts, and is left as it was. -/

theorem in_0 (c : Dev nD) (t : Fin cfg0.N) (d) : (dats m 0 c).before 0 t d = (dats m 0 c).after 0 t :=
  (before0_0_of m (dats m 0 c) (A_eq m c 0) (fun t => by dsimp only [dats]) t d).trans (by dsimp only [dats])
theorem in_1 (c : Dev nD) (t : Fin cfg0.N) (d) : (dats m 0 c).before 1 t d = (dats m 0 c).after 1 t :=
  (before0_1_of m (dats m 0 c) (A_eq m c 1) (fun t => by dsimp only [dats]) t d).trans (by dsimp only [dats])
theorem in_2 (c : Dev nD) (t : Fin cfg0.N) (d) : (dats m 0 c).before 2 t d = (dats m 0 c).after 2 t :=
  (before0_2_of m (dats m 0 c) (A_eq m c 2) (fun t => by dsimp only [dats]) t d).trans (by dsimp only [dats])
theorem in_3 (c : Dev nD) (t : Fin cfg0.N) (d) : (dats m 0 c).before 3 t d = (dats m 0 c).after 3 t :=
  (before0_3_of m (dats m 0 c) (A_eq m c 3) (fun t => by dsimp only [dats]) t d).trans (by dsimp only [dats])
theorem in_4 (c : Dev nD) (t : Fin cfg0.N) (d) : (dats m 0 c).before 4 t d = (dats m 0 c).after 4 t :=
  (before0_4_of m (dats m 0 c) (A_eq m c 4) (fun t => by dsimp only [dats]) t d).trans (by dsimp only [dats])
theorem in_5 (c : Dev nD) (t : Fin cfg0.N) (d) : (dats m 0 c).before 5 t d = (dats m 0 c).after 5 t :=
  (before0_5_of m (dats m 0 c) (A_eq m c 5) (fun t => by dsimp only [dats]) t d).trans (by dsimp only [dats])
theorem in_6 (c : Dev nD) (t : Fin cfg0.N) (d) : (dats m 0 c).before 6 t d = (dats m 0 c).after 6 t :=
  (before0_6_of m (dats m 0 c) (A_eq m c 6) (fun t => by dsimp only [dats]) t d).trans (by dsimp only [dats])
theorem in_7 (c : Dev nD) (t : Fin cfg0.N) (d) : (dats m 0 c).before 7 t d = (dats m 0 c).after 7 t :=
  (before0_7_of m (dats m 0 c) (A_eq m c 7) (fun t => by dsimp only [dats]) t d).trans (by dsimp only [dats])
theorem in_8 (c : Dev nD) (t : Fin cfg0.N) (d) : (dats m 0 c).before 8 t d = (dats m 0 c).after 8 t :=
  (before0_8_of m (dats m 0 c) (A_eq m c 8) (fun t => by dsimp only [dats]) t d).trans (by dsimp only [dats])
theorem in_9 (c : Dev nD) (t : Fin cfg0.N) (d) : (dats m 0 c).before 9 t d = (dats m 0 c).after 9 t :=
  (before0_9_of m (dats m 0 c) (A_eq m c 9) (fun t => by dsimp only [dats]) t d).trans (by dsimp only [dats])
theorem in_10 (c : Dev nD) (t : Fin cfg0.N) (d) : (dats m 0 c).before 10 t d = (dats m 0 c).after 10 t :=
  (before0_10_of m (dats m 0 c) (A_eq m c 10) (fun t => by dsimp only [dats]) t d).trans (by dsimp only [dats])
theorem in_11 (c : Dev nD) (t : Fin cfg0.N) (d) : (dats m 0 c).before 11 t d = (dats m 0 c).after 11 t :=
  (before0_11_of m (dats m 0 c) (A_eq m c 11) (fun t => by dsimp only [dats]) t d).trans (by dsimp only [dats])
theorem in_12 (c : Dev nD) (t : Fin cfg0.N) (d) : (dats m 0 c).before 12 t d = (dats m 0 c).after 12 t :=
  (before0_12_of m (dats m 0 c) (A_eq m c 12) (fun t => by dsimp only [dats]) t d).trans (by dsimp only [dats])
theorem in_13 (c : Dev nD) (t : Fin cfg0.N) (d) : (dats m 0 c).before 13 t d = (dats m 0 c).after 13 t :=
  (before0_13_of m (dats m 0 c) (A_eq m c 13) (fun t => by dsimp only [dats]) t d).trans (by dsimp only [dats])
theorem in_14 (c : Dev nD) (t : Fin cfg0.N) (d) : (dats m 0 c).before 14 t d = (dats m 0 c).after 14 t :=
  (before0_14_of m (dats m 0 c) (A_eq m c 14) (fun t => by dsimp only [dats]) t d).trans (by dsimp only [dats])
theorem in_15 (c : Dev nD) (t : Fin cfg0.N) (d) : (dats m 0 c).before 15 t d = (dats m 0 c).after 15 t :=
  (before0_15_of m (dats m 0 c) (A_eq m c 15) (fun t => by dsimp only [dats]) t d).trans (by dsimp only [dats])
theorem in_16 (c : Dev nD) (t : Fin cfg0.N) (d) : (dats m 0 c).before 16 t d = (dats m 0 c).after 16 t :=
  (before0_16_of m (dats m 0 c) (A_eq m c 16) (fun t => by dsimp only [dats]) t d).trans (by dsimp only [dats])
theorem in_17 (c : Dev nD) (t : Fin cfg0.N) (d) : (dats m 0 c).before 17 t d = (dats m 0 c).after 17 t :=
  (before0_17_of m (dats m 0 c) (A_eq m c 17) (fun t => by dsimp only [dats]) t d).trans (by dsimp only [dats])
theorem in_18 (c : Dev nD) (t : Fin cfg0.N) (d) : (dats m 0 c).before 18 t d = (dats m 0 c).after 18 t :=
  (before0_18_of m (dats m 0 c) (A_eq m c 18) (fun t => by dsimp only [dats]) t d).trans (by dsimp only [dats])
theorem in_19 (c : Dev nD) (t : Fin cfg0.N) (d) : (dats m 0 c).before 19 t d = (dats m 0 c).after 19 t :=
  (before0_19_of m (dats m 0 c) (A_eq m c 19) (fun t => by dsimp only [dats]) t d).trans (by dsimp only [dats])
theorem in_20 (c : Dev nD) (t : Fin cfg0.N) (d) : (dats m 0 c).before 20 t d = (dats m 0 c).after 20 t :=
  (before0_20_of m (dats m 0 c) (A_eq m c 20) (fun t => by dsimp only [dats]) t d).trans (by dsimp only [dats])
theorem in_21 (c : Dev nD) (t : Fin cfg0.N) (d) : (dats m 0 c).before 21 t d = (dats m 0 c).after 21 t :=
  (before0_21_of m (dats m 0 c) (A_eq m c 21) (fun t => by dsimp only [dats]) t d).trans (by dsimp only [dats])
theorem in_22 (c : Dev nD) (t : Fin cfg0.N) (d) : (dats m 0 c).before 22 t d = (dats m 0 c).after 22 t :=
  (before0_22_of m (dats m 0 c) (A_eq m c 22) (fun t => by dsimp only [dats]) t d).trans (by dsimp only [dats])
theorem in_23 (c : Dev nD) (t : Fin cfg0.N) (d) : (dats m 0 c).before 23 t d = (dats m 0 c).after 23 t :=
  (before0_23_of m (dats m 0 c) (A_eq m c 23) (fun t => by dsimp only [dats]) t d).trans (by dsimp only [dats])

/-- A statement of each of the first 24 windows is one of every input. -/
theorem all_inputs {P : Fin cfg0.W → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) (h16 : P 16) (h17 : P 17) (h18 : P 18) (h19 : P 19) (h20 : P 20) (h21 : P 21) (h22 : P 22) (h23 : P 23) :
    ∀ w : Fin cfg0.W, w.val < 24 → P w
  | ⟨0, _⟩, _ => h0
  | ⟨1, _⟩, _ => h1
  | ⟨2, _⟩, _ => h2
  | ⟨3, _⟩, _ => h3
  | ⟨4, _⟩, _ => h4
  | ⟨5, _⟩, _ => h5
  | ⟨6, _⟩, _ => h6
  | ⟨7, _⟩, _ => h7
  | ⟨8, _⟩, _ => h8
  | ⟨9, _⟩, _ => h9
  | ⟨10, _⟩, _ => h10
  | ⟨11, _⟩, _ => h11
  | ⟨12, _⟩, _ => h12
  | ⟨13, _⟩, _ => h13
  | ⟨14, _⟩, _ => h14
  | ⟨15, _⟩, _ => h15
  | ⟨16, _⟩, _ => h16
  | ⟨17, _⟩, _ => h17
  | ⟨18, _⟩, _ => h18
  | ⟨19, _⟩, _ => h19
  | ⟨20, _⟩, _ => h20
  | ⟨21, _⟩, _ => h21
  | ⟨22, _⟩, _ => h22
  | ⟨23, _⟩, _ => h23
  | ⟨_ + 24, _⟩, h => absurd h (Nat.not_lt.2 (Nat.le_add_left _ _))

/-- The same of any input. -/
theorem before_in (c : Dev nD) (t : Fin cfg0.N) : ∀ (w : Fin cfg0.W), w.val < 24 → ∀ d, (dats m 0 c).before w t d = (dats m 0 c).after w t :=
  all_inputs (P := fun w : Fin cfg0.W => ∀ d, (dats m 0 c).before w t d = (dats m 0 c).after w t)
    (in_0 m c t) (in_1 m c t) (in_2 m c t) (in_3 m c t) (in_4 m c t) (in_5 m c t) (in_6 m c t) (in_7 m c t) (in_8 m c t) (in_9 m c t) (in_10 m c t) (in_11 m c t) (in_12 m c t) (in_13 m c t) (in_14 m c t) (in_15 m c t) (in_16 m c t) (in_17 m c t) (in_18 m c t) (in_19 m c t) (in_20 m c t) (in_21 m c t) (in_22 m c t) (in_23 m c t)

/-- The counter's input block is the same at every point: its window never moves. -/
theorem iblk20 (c : Dev nD) (t : Fin cfg0.N) : iblk m c 20 t = iblk m c 20 first := by
  unfold iblk
  rfl

/-! What each buffer holds after the body, window by window. -/

theorem at_0 (c : Dev nD) (t : Fin cfg0.N) : (dats m 0 c).after 0 t = iblk m c 0 t := by dsimp only [dats]
theorem at_1 (c : Dev nD) (t : Fin cfg0.N) : (dats m 0 c).after 1 t = iblk m c 1 t := by dsimp only [dats]
theorem at_2 (c : Dev nD) (t : Fin cfg0.N) : (dats m 0 c).after 2 t = iblk m c 2 t := by dsimp only [dats]
theorem at_3 (c : Dev nD) (t : Fin cfg0.N) : (dats m 0 c).after 3 t = iblk m c 3 t := by dsimp only [dats]
theorem at_4 (c : Dev nD) (t : Fin cfg0.N) : (dats m 0 c).after 4 t = iblk m c 4 t := by dsimp only [dats]
theorem at_5 (c : Dev nD) (t : Fin cfg0.N) : (dats m 0 c).after 5 t = iblk m c 5 t := by dsimp only [dats]
theorem at_6 (c : Dev nD) (t : Fin cfg0.N) : (dats m 0 c).after 6 t = iblk m c 6 t := by dsimp only [dats]
theorem at_7 (c : Dev nD) (t : Fin cfg0.N) : (dats m 0 c).after 7 t = iblk m c 7 t := by dsimp only [dats]
theorem at_8 (c : Dev nD) (t : Fin cfg0.N) : (dats m 0 c).after 8 t = iblk m c 8 t := by dsimp only [dats]
theorem at_9 (c : Dev nD) (t : Fin cfg0.N) : (dats m 0 c).after 9 t = iblk m c 9 t := by dsimp only [dats]
theorem at_10 (c : Dev nD) (t : Fin cfg0.N) : (dats m 0 c).after 10 t = iblk m c 10 t := by dsimp only [dats]
theorem at_11 (c : Dev nD) (t : Fin cfg0.N) : (dats m 0 c).after 11 t = iblk m c 11 t := by dsimp only [dats]
theorem at_12 (c : Dev nD) (t : Fin cfg0.N) : (dats m 0 c).after 12 t = iblk m c 12 t := by dsimp only [dats]
theorem at_13 (c : Dev nD) (t : Fin cfg0.N) : (dats m 0 c).after 13 t = iblk m c 13 t := by dsimp only [dats]
theorem at_14 (c : Dev nD) (t : Fin cfg0.N) : (dats m 0 c).after 14 t = iblk m c 14 t := by dsimp only [dats]
theorem at_15 (c : Dev nD) (t : Fin cfg0.N) : (dats m 0 c).after 15 t = iblk m c 15 t := by dsimp only [dats]
theorem at_16 (c : Dev nD) (t : Fin cfg0.N) : (dats m 0 c).after 16 t = iblk m c 16 t := by dsimp only [dats]
theorem at_17 (c : Dev nD) (t : Fin cfg0.N) : (dats m 0 c).after 17 t = iblk m c 17 t := by dsimp only [dats]
theorem at_18 (c : Dev nD) (t : Fin cfg0.N) : (dats m 0 c).after 18 t = iblk m c 18 t := by dsimp only [dats]
theorem at_19 (c : Dev nD) (t : Fin cfg0.N) : (dats m 0 c).after 19 t = iblk m c 19 t := by dsimp only [dats]
theorem at_20 (c : Dev nD) (t : Fin cfg0.N) : (dats m 0 c).after 20 t = iblk m c 20 t := by dsimp only [dats]
theorem at_21 (c : Dev nD) (t : Fin cfg0.N) : (dats m 0 c).after 21 t = iblk m c 21 t := by dsimp only [dats]
theorem at_22 (c : Dev nD) (t : Fin cfg0.N) : (dats m 0 c).after 22 t = iblk m c 22 t := by dsimp only [dats]
theorem at_23 (c : Dev nD) (t : Fin cfg0.N) : (dats m 0 c).after 23 t = iblk m c 23 t := by dsimp only [dats]
theorem at_24 (c : Dev nD) (t : Fin cfg0.N) :
    (dats m 0 c).after 24 t = k0_pay8 (grid0.coords t) (iblk m c 21 t) (iblk m c 0 t) := by dsimp only [dats]
theorem at_25 (c : Dev nD) (t : Fin cfg0.N) :
    (dats m 0 c).after 25 t = k0_pay9 (mask3 m c t) (iblk m c 1 t) := by dsimp only [dats]
theorem at_26 (c : Dev nD) (t : Fin cfg0.N) :
    (dats m 0 c).after 26 t = k0_pay10 (mask3 m c t) (iblk m c 2 t) := by dsimp only [dats]
theorem at_27 (c : Dev nD) (t : Fin cfg0.N) :
    (dats m 0 c).after 27 t = k0_pay11 (mask3 m c t) (iblk m c 3 t) := by dsimp only [dats]
theorem at_28 (c : Dev nD) (t : Fin cfg0.N) :
    (dats m 0 c).after 28 t = k0_pay14 (k0_pay12 (iblk m c 4 t)) 0#32 (k0_pay13 (mask3 m c t)) := by dsimp only [dats]
theorem at_29 (c : Dev nD) (t : Fin cfg0.N) :
    (dats m 0 c).after 29 t = k0_pay15 (mask3 m c t) (iblk m c 5 t) := by dsimp only [dats]
theorem at_30 (c : Dev nD) (t : Fin cfg0.N) :
    (dats m 0 c).after 30 t = k0_pay16 (mask3 m c t) (iblk m c 6 t) := by dsimp only [dats]
theorem at_31 (c : Dev nD) (t : Fin cfg0.N) :
    (dats m 0 c).after 31 t = k0_pay17 (mask3 m c t) (iblk m c 7 t) := by dsimp only [dats]
theorem at_32 (c : Dev nD) (t : Fin cfg0.N) :
    (dats m 0 c).after 32 t = k0_pay18 (mask3 m c t) (iblk m c 8 t) := by dsimp only [dats]
theorem at_33 (c : Dev nD) (t : Fin cfg0.N) :
    (dats m 0 c).after 33 t = k0_pay19 (mask4 m c t) (iblk m c 9 t) := by dsimp only [dats]
theorem at_34 (c : Dev nD) (t : Fin cfg0.N) :
    (dats m 0 c).after 34 t = k0_pay20 (mask4 m c t) (iblk m c 10 t) := by dsimp only [dats]
theorem at_35 (c : Dev nD) (t : Fin cfg0.N) :
    (dats m 0 c).after 35 t = k0_pay21 (mask4 m c t) (iblk m c 11 t) := by dsimp only [dats]
theorem at_36 (c : Dev nD) (t : Fin cfg0.N) :
    (dats m 0 c).after 36 t = k0_pay22 (mask4 m c t) (iblk m c 12 t) := by dsimp only [dats]
theorem at_37 (c : Dev nD) (t : Fin cfg0.N) :
    (dats m 0 c).after 37 t = k0_pay23 (mask5 m c t) (iblk m c 13 t) := by dsimp only [dats]
theorem at_38 (c : Dev nD) (t : Fin cfg0.N) :
    (dats m 0 c).after 38 t = k0_pay25 (mask2 m c t) (k0_pay24 (iblk m c 14 t)) 0#32 := by dsimp only [dats]
theorem at_39 (c : Dev nD) (t : Fin cfg0.N) :
    (dats m 0 c).after 39 t = k0_pay26 (mask2 m c t) (iblk m c 15 t) := by dsimp only [dats]
theorem at_40 (c : Dev nD) (t : Fin cfg0.N) :
    (dats m 0 c).after 40 t = k0_pay27 (mask2 m c t) (iblk m c 16 t) := by dsimp only [dats]
theorem at_41 (c : Dev nD) (t : Fin cfg0.N) :
    (dats m 0 c).after 41 t = k0_pay28 (mask2 m c t) (iblk m c 17 t) := by dsimp only [dats]
theorem at_42 (c : Dev nD) (t : Fin cfg0.N) :
    (dats m 0 c).after 42 t = k0_pay29 (mask2 m c t) (iblk m c 18 t) := by dsimp only [dats]
theorem at_43 (c : Dev nD) (t : Fin cfg0.N) :
    (dats m 0 c).after 43 t = k0_pay1 (mask2 m c t) (iblk m c 19 t) := by dsimp only [dats]
theorem at_44 (c : Dev nD) (t : Fin cfg0.N) :
    (dats m 0 c).after 44 t = k0_pay2 (k0_pay3 (iblk m c 20 t)) := by
  rw [iblk20 m c t]
  dsimp only [dats]

/-- The counter's output buffer, found at a later point, holds what the first point stored. -/
theorem before44 (c : Dev nD) (t : Fin cfg0.N) (d) (h : cfg0.fresh 44 t.val = false) :
    (dats m 0 c).before 44 t d = (dats m 0 c).after 44 t := by
  rw [(dats m 0 c).before_out_traj 44 rfl (fun _ _ => rfl) (fun _ _ _ _ => by dsimp only [dats]) t.val t rfl d, h]
  dsimp only [dats]
  rfl

end Cert.KernelIdeal.Hand
-- ==== Proof.Body.lean ====
/-
  The body at one point. The buffers are held as one family: the inputs at their blocks, the outputs below `k` at what
  the body stores, the rest as found. Each store moves `k` on by one.
-/
module

public import proofs.«01_k».proof.Proof.Data

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' junk, one for every window. -/
abbrev Junk (F : FTy → Type) := (w : Fin cfg0.W) → (cfg0.win w).block.Idx → Elt F (cfg0.win w).elt

/-- What every buffer holds with the windows below `k` done. -/
def st (c : Dev nD) (t : Fin cfg0.N) (D : Junk F) (k : ℕ) : (w : Fin cfg0.W) → (cfg0.win w).block.Idx → Elt F (cfg0.win w).elt :=
  fun w => if w.val < k then (dats m 0 c).after w t else (dats m 0 c).before w t (D w)

/-- The buffers held so. -/
abbrev hst (c : Dev nD) (t : Fin cfg0.N) (D : Junk F) (k : ℕ) : sProp 𝕄 :=
  held (c : Thread nD τ) (fun w => (cfg0.win w).stage (cfg0.slots t w)) (st m c t D k)

/-- Any buffer can be read, at some contents. -/
theorem rdAny (c : Dev nD) (t : Fin cfg0.N) (D : Junk F) (k : ℕ) (w : Fin cfg0.W) :
    hst m c t D k ⊢ iprop(owns (c : Thread nD τ) ((cfg0.win w).stage (cfg0.slots t w)) fullShare (st m c t D k w)
      ∗ (owns (c : Thread nD τ) ((cfg0.win w).stage (cfg0.slots t w)) fullShare (st m c t D k w) -∗ hst m c t D k)) :=
  held_load (c : Thread nD τ) (fun w => (cfg0.win w).stage (cfg0.slots t w)) (st m c t D k) w

/-- A buffer already done is read at what the body leaves there. -/
theorem rd (c : Dev nD) (t : Fin cfg0.N) (D : Junk F) (k : ℕ) (w : Fin cfg0.W) (h : w.val < k)
    {x : (cfg0.win w).block.Idx → Elt F (cfg0.win w).elt} (hx : (dats m 0 c).after w t = x) :
    hst m c t D k ⊢ iprop(owns (c : Thread nD τ) ((cfg0.win w).stage (cfg0.slots t w)) fullShare x
      ∗ (owns (c : Thread nD τ) ((cfg0.win w).stage (cfg0.slots t w)) fullShare x -∗ hst m c t D k)) := by
  have e : st m c t D k w = x := (if_pos h).trans hx
  have h' := rdAny m c t D k w
  rw [e] at h'
  exact h'

/-- Storing into window `w` what the body leaves there moves the family on by one. -/
theorem wr (c : Dev nD) (t : Fin cfg0.N) (D : Junk F) (k : ℕ) (w : Fin cfg0.W) (hw : w.val = k)
    {x : (cfg0.win w).block.Idx → Elt F (cfg0.win w).elt} (hx : (dats m 0 c).after w t = x) :
    hst m c t D k ⊢ iprop(owns (c : Thread nD τ) ((cfg0.win w).stage (cfg0.slots t w)) fullShare (st m c t D k w)
      ∗ (owns (c : Thread nD τ) ((cfg0.win w).stage (cfg0.slots t w)) fullShare x -∗ hst m c t D (k + 1))) := by
  have e : st m c t D (k + 1) w = x := (if_pos (by omega)).trans hx
  have h' : hst m c t D k ⊢ iprop(owns (c : Thread nD τ) ((cfg0.win w).stage (cfg0.slots t w)) fullShare (st m c t D k w)
      ∗ (owns (c : Thread nD τ) ((cfg0.win w).stage (cfg0.slots t w)) fullShare (st m c t D (k + 1) w) -∗ hst m c t D (k + 1))) :=
    held_store (c : Thread nD τ) (fun w => (cfg0.win w).stage (cfg0.slots t w)) (st m c t D k) (st m c t D (k + 1)) w
    (fun w' hne => by
      have : w'.val ≠ k := fun h => hne (Fin.ext (h.trans hw.symm))
      unfold st
      by_cases h : w'.val < k
      · rw [if_pos h, if_pos (by omega)]
      · rw [if_neg h, if_neg (by omega)])
  rw [e] at h'
  exact h'

/-- What the body leaves: everything done but possibly the counter's output, done at the first point only. -/
def post (c : Dev nD) (t : Fin cfg0.N) (D : Junk F) : sProp 𝕄 :=
  if k0_cond1 (grid0.coords t) = 1#1 then hst m c t D 45 else hst m c t D 44

/-- The offsets of a whole-buffer access are all zero. -/
theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl
theorem zero5 : (![0, 0, 0, 0, 0] : Fin 5 → ℕ) = fun _ => 0 := by funext a; fin_cases a <;> rfl

set_option maxHeartbeats 8000000 in
theorem body_wp (c : Dev nD) (t : Fin cfg0.N) (D : Junk F) :
    hst m c t D 24 ⊢ wp frame (wpE (defs₀ (F := F)) Variants.none (c : Thread nD τ) none) Set.univ (bodyAt0 t) fun _ => post m c t D := by
  unfold bodyAt0
  rw [cc0__body_eq_skeleton]
  unfold cc0__body_skel
  rw [wp_bind, k0_part1_eq_skeleton]
  unfold k0_part1_skel
  refine load_bind _ _ _ zero2 _ (rd m c t D 24 20 (by decide) (at_20 m c t)) ?_
  refine load_bind _ _ _ zero3 _ (rd m c t D 24 21 (by decide) (at_21 m c t)) ?_
  refine load_bind _ _ _ zero4 _ (rd m c t D 24 22 (by decide) (at_22 m c t)) ?_
  refine load_bind _ _ _ zero5 _ (rd m c t D 24 23 (by decide) (at_23 m c t)) ?_
  refine load_bind _ _ _ zero3 _ (rd m c t D 24 0 (by decide) (at_0 m c t)) ?_
  refine pure_step _ _ _ _ ?_
  try dsimp only
  rw [wp_bind, k0_part2_eq_skeleton]
  unfold k0_part2_skel
  refine load_bind _ _ _ zero3 _ (rdAny m c t D 24 24) ?_
  refine store_bind _ _ _ zero3 _ (wr m c t D 24 24 rfl (at_24 m c t)) ?_
  refine load_bind _ _ _ zero3 _ (rd m c t D 25 1 (by decide) (at_1 m c t)) ?_
  refine load_bind _ _ _ zero3 _ (rdAny m c t D 25 25) ?_
  refine store_bind _ _ _ zero3 _ (wr m c t D 25 25 rfl (at_25 m c t)) ?_
  refine load_bind _ _ _ zero3 _ (rd m c t D 26 2 (by decide) (at_2 m c t)) ?_
  refine load_bind _ _ _ zero3 _ (rdAny m c t D 26 26) ?_
  refine store_bind _ _ _ zero3 _ (wr m c t D 26 26 rfl (at_26 m c t)) ?_
  refine load_bind _ _ _ zero3 _ (rd m c t D 27 3 (by decide) (at_3 m c t)) ?_
  refine load_bind _ _ _ zero3 _ (rdAny m c t D 27 27) ?_
  refine store_bind _ _ _ zero3 _ (wr m c t D 27 27 rfl (at_27 m c t)) ?_
  refine load_bind _ _ _ zero3 _ (rd m c t D 28 4 (by decide) (at_4 m c t)) ?_
  refine pure_step _ _ _ _ ?_
  try dsimp only
  rw [wp_bind, k0_part3_eq_skeleton]
  unfold k0_part3_skel
  refine load_bind _ _ _ zero3 _ (rdAny m c t D 28 28) ?_
  refine store_bind _ _ _ zero3 _ (wr m c t D 28 28 rfl (at_28 m c t)) ?_
  refine load_bind _ _ _ zero3 _ (rd m c t D 29 5 (by decide) (at_5 m c t)) ?_
  refine load_bind _ _ _ zero3 _ (rdAny m c t D 29 29) ?_
  refine store_bind _ _ _ zero3 _ (wr m c t D 29 29 rfl (at_29 m c t)) ?_
  refine load_bind _ _ _ zero3 _ (rd m c t D 30 6 (by decide) (at_6 m c t)) ?_
  refine load_bind _ _ _ zero3 _ (rdAny m c t D 30 30) ?_
  refine store_bind _ _ _ zero3 _ (wr m c t D 30 30 rfl (at_30 m c t)) ?_
  refine load_bind _ _ _ zero3 _ (rd m c t D 31 7 (by decide) (at_7 m c t)) ?_
  refine load_bind _ _ _ zero3 _ (rdAny m c t D 31 31) ?_
  refine pure_step _ _ _ _ ?_
  try dsimp only
  rw [wp_bind, k0_part4_eq_skeleton]
  unfold k0_part4_skel
  refine store_bind _ _ _ zero3 _ (wr m c t D 31 31 rfl (at_31 m c t)) ?_
  refine load_bind _ _ _ zero3 _ (rd m c t D 32 8 (by decide) (at_8 m c t)) ?_
  refine load_bind _ _ _ zero3 _ (rdAny m c t D 32 32) ?_
  refine store_bind _ _ _ zero3 _ (wr m c t D 32 32 rfl (at_32 m c t)) ?_
  refine load_bind _ _ _ zero4 _ (rd m c t D 33 9 (by decide) (at_9 m c t)) ?_
  refine load_bind _ _ _ zero4 _ (rdAny m c t D 33 33) ?_
  refine store_bind _ _ _ zero4 _ (wr m c t D 33 33 rfl (at_33 m c t)) ?_
  refine load_bind _ _ _ zero4 _ (rd m c t D 34 10 (by decide) (at_10 m c t)) ?_
  refine load_bind _ _ _ zero4 _ (rdAny m c t D 34 34) ?_
  refine store_bind _ _ _ zero4 _ (wr m c t D 34 34 rfl (at_34 m c t)) ?_
  refine pure_step _ _ _ _ ?_
  try dsimp only
  rw [wp_bind, k0_part5_eq_skeleton]
  unfold k0_part5_skel
  refine load_bind _ _ _ zero4 _ (rd m c t D 35 11 (by decide) (at_11 m c t)) ?_
  refine load_bind _ _ _ zero4 _ (rdAny m c t D 35 35) ?_
  refine store_bind _ _ _ zero4 _ (wr m c t D 35 35 rfl (at_35 m c t)) ?_
  refine load_bind _ _ _ zero4 _ (rd m c t D 36 12 (by decide) (at_12 m c t)) ?_
  refine load_bind _ _ _ zero4 _ (rdAny m c t D 36 36) ?_
  refine store_bind _ _ _ zero4 _ (wr m c t D 36 36 rfl (at_36 m c t)) ?_
  refine load_bind _ _ _ zero5 _ (rd m c t D 37 13 (by decide) (at_13 m c t)) ?_
  refine load_bind _ _ _ zero5 _ (rdAny m c t D 37 37) ?_
  refine store_bind _ _ _ zero5 _ (wr m c t D 37 37 rfl (at_37 m c t)) ?_
  refine load_bind _ _ _ zero2 _ (rd m c t D 38 14 (by decide) (at_14 m c t)) ?_
  refine pure_step _ _ _ _ ?_
  try dsimp only
  rw [wp_bind, k0_part6_eq_skeleton]
  unfold k0_part6_skel
  refine load_bind _ _ _ zero2 _ (rdAny m c t D 38 38) ?_
  refine store_bind _ _ _ zero2 _ (wr m c t D 38 38 rfl (at_38 m c t)) ?_
  refine load_bind _ _ _ zero2 _ (rd m c t D 39 15 (by decide) (at_15 m c t)) ?_
  refine load_bind _ _ _ zero2 _ (rdAny m c t D 39 39) ?_
  refine store_bind _ _ _ zero2 _ (wr m c t D 39 39 rfl (at_39 m c t)) ?_
  refine load_bind _ _ _ zero2 _ (rd m c t D 40 16 (by decide) (at_16 m c t)) ?_
  refine load_bind _ _ _ zero2 _ (rdAny m c t D 40 40) ?_
  refine store_bind _ _ _ zero2 _ (wr m c t D 40 40 rfl (at_40 m c t)) ?_
  refine load_bind _ _ _ zero2 _ (rd m c t D 41 17 (by decide) (at_17 m c t)) ?_
  refine load_bind _ _ _ zero2 _ (rdAny m c t D 41 41) ?_
  refine store_bind _ _ _ zero2 _ (wr m c t D 41 41 rfl (at_41 m c t)) ?_
  refine load_bind _ _ _ zero2 _ (rd m c t D 42 18 (by decide) (at_18 m c t)) ?_
  refine load_bind _ _ _ zero2 _ (rdAny m c t D 42 42) ?_
  refine store_bind _ _ _ zero2 _ (wr m c t D 42 42 rfl (at_42 m c t)) ?_
  refine pure_step _ _ _ _ ?_
  try dsimp only
  refine load_bind _ _ _ zero2 _ (rd m c t D 43 19 (by decide) (at_19 m c t)) ?_
  refine load_bind _ _ _ zero2 _ (rdAny m c t D 43 43) ?_
  refine store_bind _ _ _ zero2 _ (wr m c t D 43 43 rfl (at_43 m c t)) ?_
  unfold post
  by_cases hc : k0_cond1 (grid0.coords t) = 1#1
  · rw [dif_pos hc, if_pos hc]
    refine load_bind _ _ _ zero2 _ (rdAny m c t D 44 44) ?_
    refine store_bind _ _ _ zero2 _ (wr m c t D 44 44 rfl (at_44 m c t)) ?_
    exact pure_step _ _ _ _ (Entails.refl _)
  · rw [dif_neg hc, if_neg hc]
    exact pure_step _ _ _ _ (Entails.refl _)

end Cert.KernelIdeal.Hand
-- ==== Proof.Run.lean ====
/-
  The whole launch: the body at every point, and from it the run of the program and what it leaves.
-/
module

public import proofs.«01_k».proof.Proof.Body

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the counter's output is ever left unwritten at a point. -/
theorem idle_below : ∀ (w : Fin 45), w.val < 44 → ∀ i : grid0.Coords, idle0 w i = false := by
  intro w h i
  fin_cases w <;> first
    | rfl
    | exact absurd h (by decide)

/-- The counter's output is stored exactly where the condition on the point holds. -/
theorem idle_44 (i : cfg0.grid.Coords) : cfg0.idle 44 i = !(k0_cond1 i == 1#1) := rfl

/-- That condition holds at the first point alone. -/
theorem fresh_44 : ∀ t : Fin cfg0.N, k0_cond1 (grid0.coords t) ≠ 1#1 → cfg0.fresh 44 t.val = false := by decide

/-- What the obligation asks of one buffer after the body. -/
abbrev Left (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A buffer at what the body leaves is what the obligation asks where the window is written. -/
theorem left_written (c : Dev nD) (t : Fin cfg0.N) (w : Fin cfg0.W) (h : cfg0.idle w (cfg0.grid.coords t) = false) :
    owns (c : Thread nD τ) ((cfg0.win w).stage (cfg0.slots t w)) fullShare ((dats m 0 c).after w t) ⊢ Left m c t w := by
  unfold Left
  rw [h]

/-- A buffer found at what an earlier point left, and not written, is what the obligation asks. -/
theorem left_found (c : Dev nD) (t : Fin cfg0.N) (w : Fin cfg0.W) (d) (h : cfg0.idle w (cfg0.grid.coords t) = true)
    (hb : (dats m 0 c).before w t d = (dats m 0 c).after w t) :
    owns (c : Thread nD τ) ((cfg0.win w).stage (cfg0.slots t w)) fullShare ((dats m 0 c).before w t d) ⊢ Left m c t w := by
  unfold Left
  rw [h]
  cases (cfg0.win w).flush t
  · iintro H
    iexists d
    iexact H
  · rw [hb]

/-- The last window's number. -/
theorem eq_44 (w : Fin cfg0.W) (h : ¬ w.val < 44) : w = 44 :=
  Fin.ext (by have : w.val < 45 := w.isLt; show w.val = 44; omega)

/-- What the body leaves is what the obligation asks, window by window. -/
theorem post_left (c : Dev nD) (t : Fin cfg0.N) (D : Junk F) : post m c t D ⊢ bigSep Finset.univ fun w => Left m c t w := by
  unfold post
  by_cases hc : k0_cond1 (grid0.coords t) = 1#1
  · rw [if_pos hc]
    refine bigSep_mono fun w _ => ?_
    have e : st m c t D 45 w = (dats m 0 c).after w t := if_pos w.isLt
    rw [e]
    refine left_written m c t w ?_
    by_cases h : w.val < 44
    · exact idle_below w h _
    · rw [eq_44 w h, idle_44]
      exact (congrArg (fun b => !(b == 1#1)) hc).trans rfl
  · rw [if_neg hc]
    refine bigSep_mono fun w _ => ?_
    by_cases h : w.val < 44
    · have e : st m c t D 44 w = (dats m 0 c).after w t := if_pos h
      rw [e]
      exact left_written m c t w (idle_below w h _)
    · have e : st m c t D 44 w = (dats m 0 c).before w t (D w) := if_neg h
      rw [e]
      obtain rfl := eq_44 w h
      refine left_found m c t 44 (D 44) ?_ (before44 m c t (D 44) (fresh_44 t hc))
      rw [idle_44, beq_eq_false_iff_ne.2 hc]
      rfl

/-- The body's program at a point. -/
theorem defs₀_row (t : Fin cfg0.N) : defs₀ (F := F) .tc cfg0.body (cfg0.bodyArgs t (cfg0.slots t)) = bodyAt0 t := by
  unfold defs₀; rw [Defs.onTc_tc]

/-- The buffers as the body finds them are the family with no output done. -/
theorem found (c : Dev nD) (t : Fin cfg0.N) (D : Junk F) :
    (bigSep Finset.univ fun w : Fin cfg0.W =>
      (owns (c : Thread nD τ) ((cfg0.win w).stage (cfg0.slots t w)) fullShare ((dats m 0 c).before w t (D w)) : sProp 𝕄))
      ⊢ hst m c t D 24 :=
  bigSep_mono fun w _ => by
    have e : st m c t D 24 w = (dats m 0 c).before w t (D w) := by
      unfold st
      by_cases h : w.val < 24
      · rw [if_pos h, before_in m c t w h (D w)]
      · rw [if_neg h]
    rw [e]
    exact Entails.refl _

/-- The body, from the buffers as found to the buffers as asked. -/
theorem body_all (c : Dev nD) (t : Fin cfg0.N) :
    (bigSep Finset.univ fun w : Fin cfg0.W =>
      iprop(∃ d, owns (c : Thread nD τ) ((cfg0.win w).stage (cfg0.slots t w)) fullShare ((dats m 0 c).before w t d)) : sProp 𝕄)
      ⊢ wp frame (wpE (defs₀ (F := F)) Variants.none (c : Thread nD τ) none) Set.univ (bodyAt0 t)
        fun _ => bigSep Finset.univ fun w => Left m c t w :=
  (bigSep_exists_pi Finset.univ _).trans (exists_elim fun D =>
    (found m c t D).trans ((body_wp m c t D).trans (wp_mono _ _ _ fun _ => post_left m c t D)))

/-- The body at every point. -/
theorem body_obligation (c : Dev nD) :
    BodyObligation (dats (F := F) m 0 c) (defs₀ (F := F)) Variants.none () Set.univ := fun t => by
  rw [defs₀_row]
  refine (sep_mono .rfl (sep_mono .rfl (body_all m c t))).trans ?_
  refine (sep_mono .rfl (wp_frame_l _ _ _)).trans ((wp_frame_l _ _ _).trans ?_)
  exact wp_mono _ _ _ fun _ => .rfl

set_option backward.isDefEq.respectTransparency.types false in
set_option maxHeartbeats 800000 in
/-- The program runs to the end; its arrays end at what the proof data says, every other buffer at what the lines after
    the launch leave, every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand
-- ==== Proof.FrameRun.lean ====
/-
  The frame: the program runs to the end, its arguments end as they began, every counter ends at zero.
-/
module

public import proofs.«01_k».proof.Proof.Run
public import Idealize.ShloMosaic.Lib.Claim

@[expose] public section

set_option maxRecDepth 16384

noncomputable section

namespace Cert.KernelIdeal.Hand

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the frame says, at any numbers. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0)

/-- The frame holds. -/
theorem framed : Framed F := fun m ρ _ =>
  θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.Transfer.lean ====
/-
  The kernel as printed for machine numbers and for exact reading is one program: the frame of the second, at machine
  numbers, is the frame of the first.
-/
module

public import proofs.«01_k».proof.Defs
public import proofs.«01_k».proof.Proof.Gen.Kernel
public import proofs.«01_k».proof.Proof.FrameRun

@[expose] public section

set_option maxRecDepth 16384

noncomputable section

namespace Cert.Transfer

open Idealize.ShloMosaic Idealize.ShloMosaic.Tactic

/-- The two statements are one. -/
theorem framed_eq : Cert.quiescent_Kernel = Cert.KernelIdeal.Hand.Framed Bits := by
  sl_kernel_rfl

/-- The kernel's frame. -/
theorem framed : Cert.quiescent_Kernel := framed_eq.mpr Cert.KernelIdeal.Hand.framed

end Cert.Transfer
-- ==== Proof.RefFrame.lean ====
/-
  The reference's frame: it runs to the end, its arguments end as they began, and it has no semaphore.
-/
module

public import proofs.«01_k».proof.Defs
public import proofs.«01_k».proof.Proof.Gen.ReferenceIdeal.Run

@[expose] public section

set_option maxRecDepth 16384

noncomputable section

namespace Cert.RefFrame

open Idealize.ShloMosaic Idealize.SL.Sem

set_option maxHeartbeats 1000000 in
theorem framed : Cert.quiescent_ReferenceIdeal := by
  intro m g _
  exact (θ_run Cert.ReferenceIdeal.defs _ _).mono
    (fun r Q => ⟨fun c => (Q c).2.2.2.2.2.2.2.2.2.2.2.2.2.2.2.2.2.2.2.2.2.2.2, sem_eq_zero_of_no_sems (by decide) r.2⟩)
    (Cert.ReferenceIdeal.Value.run m g)

end Cert.RefFrame
-- ==== Proof.Scatter.lean ====
/-
  What a `.at[env, step].set(v)` scatter leaves, at an element: environment `e`'s row `t` holds the environment's value where
  its step is `t`, and what was there before elsewhere, when the environment words are `0, 1, 2, …` in order.
-/
module

public import Idealize.ShloMosaic.Lib.Routing.OpsSet
public import Idealize.ShloMosaic.Lib.Routing.OpsPair
public import Idealize.ShloMosaic.Lib.ValueIdx

@[expose] public section

namespace Cert.Scatter

open Idealize.ShloMosaic Idealize.ShloMosaic.ValueIdx

/-- The element an update writes, read back: one writer, or none. -/
theorem set_apply {s si u : Shape} {w : ℕ} {α : Type} (d : ScatterDims s si u) (x : s.Idx → α) (idx : IVec si w) (upd : u.Idx → α)
    (ι : s.Idx) (j : u.Idx) (P : Prop) [Decidable P]
    (h : ∀ k : u.Idx, (∀ a, d.start k idx a + d.window k a = ((ι a).val : ℤ)) ↔ k = j ∧ P) :
    Host.scatter d (fun _ b => b) x idx upd ι = if P then upd j else x ι := by
  by_cases hP : P
  · rw [if_pos hP]
    refine Routing.scatter_set_hit d x idx upd ι (upd j) (fun k hk => ?_) j ((Routing.resultIdx?_eq_some d j idx ι).2 ((h j).2 ⟨rfl, hP⟩))
    rw [((h k).1 ((Routing.resultIdx?_eq_some d k idx ι).1 hk)).1]
  · rw [if_neg hP]
    exact Routing.scatter_set_miss d x idx upd ι fun k hk => hP ((h k).1 ((Routing.resultIdx?_eq_some d k idx ι).1 hk)).2

section Ranks

variable {α : Type} {E T A B C : ℕ} (idx : IVec (⟨2, ![E, 2]⟩ : Shape) 32)

/-- Rank 2. -/
theorem set2 (wf) (h0 : ∀ e, (idx (ix2 e 0)).toInt = (e.val : ℤ)) (x : (⟨2, ![E, T]⟩ : Shape).Idx → α)
    (upd : (⟨1, ![E]⟩ : Shape).Idx → α) (e : Fin E) (t : Fin T)  :
    Host.scatter (⟨[], [0, 1], [0, 1], 1, wf⟩ : ScatterDims ⟨2, ![E, T]⟩ ⟨2, ![E, 2]⟩ ⟨1, ![E]⟩) (fun _ b => b) x idx upd (ix2 e t )
      = if (idx (ix2 e 1)).toInt = (t.val : ℤ) then upd (ix1 e ) else x (ix2 e t ) := by
  refine set_apply _ x idx upd _ (ix1 e ) _ fun k => ?_
  have s0 : ScatterDims.start (⟨[], [0, 1], [0, 1], 1, wf⟩ : ScatterDims ⟨2, ![E, T]⟩ ⟨2, ![E, 2]⟩ ⟨1, ![E]⟩) k idx 0 = (idx (ix2 (k 0) 0)).toInt := by
    unfold ScatterDims.start ScatterDims.siIdx ScatterDims.siCoord
    simp
    refine congrArg (fun i => (idx i).toInt) (funext fun b => ?_)
    match b with
    | ⟨0, _⟩ => rfl
    | ⟨1, _⟩ => rfl
  have s1 : ScatterDims.start (⟨[], [0, 1], [0, 1], 1, wf⟩ : ScatterDims ⟨2, ![E, T]⟩ ⟨2, ![E, 2]⟩ ⟨1, ![E]⟩) k idx 1 = (idx (ix2 (k 0) 1)).toInt := by
    unfold ScatterDims.start ScatterDims.siIdx ScatterDims.siCoord
    simp
    refine congrArg (fun i => (idx i).toInt) (funext fun b => ?_)
    match b with
    | ⟨0, _⟩ => rfl
    | ⟨1, _⟩ => rfl
  have w0 : ScatterDims.window (⟨[], [0, 1], [0, 1], 1, wf⟩ : ScatterDims ⟨2, ![E, T]⟩ ⟨2, ![E, 2]⟩ ⟨1, ![E]⟩) k 0 = 0 := by rfl
  have w1 : ScatterDims.window (⟨[], [0, 1], [0, 1], 1, wf⟩ : ScatterDims ⟨2, ![E, T]⟩ ⟨2, ![E, 2]⟩ ⟨1, ![E]⟩) k 1 = 0 := by rfl
  replace s0 := s0.trans (h0 (k 0))
  constructor
  · intro h
    have e0 := h 0
    have e1 := h 1
    rw [s0, w0] at e0
    rw [s1, w1] at e1
    have k0 : k 0 = e := Fin.ext (by have : ((ix2 e t ) 0 : ℕ) = e.val := rfl; dsimp only at e0; omega)
    refine ⟨funext fun b => ?_, ?_⟩
    · match b with
      | ⟨0, _⟩ => exact k0
    · rw [k0, Nat.cast_zero, add_zero] at e1
      exact e1
  · rintro ⟨rfl, hP⟩ b
    match b with
    | ⟨0, _⟩ => exact (congrArg₂ (fun p q : ℤ => p + q) s0 (congrArg Nat.cast w0)).trans (by rw [Nat.cast_zero, add_zero]; rfl)
    | ⟨1, _⟩ => exact (congrArg₂ (fun p q : ℤ => p + q) s1 (congrArg Nat.cast w1)).trans (by rw [Nat.cast_zero, add_zero]; exact hP)

/-- Rank 3. -/
theorem set3 (wf) (h0 : ∀ e, (idx (ix2 e 0)).toInt = (e.val : ℤ)) (x : (⟨3, ![E, T, A]⟩ : Shape).Idx → α)
    (upd : (⟨2, ![E, A]⟩ : Shape).Idx → α) (e : Fin E) (t : Fin T) (a : Fin A) :
    Host.scatter (⟨[1], [0, 1], [0, 1], 1, wf⟩ : ScatterDims ⟨3, ![E, T, A]⟩ ⟨2, ![E, 2]⟩ ⟨2, ![E, A]⟩) (fun _ b => b) x idx upd (ix3 e t a)
      = if (idx (ix2 e 1)).toInt = (t.val : ℤ) then upd (ix2 e a) else x (ix3 e t a) := by
  refine set_apply _ x idx upd _ (ix2 e a) _ fun k => ?_
  have s0 : ScatterDims.start (⟨[1], [0, 1], [0, 1], 1, wf⟩ : ScatterDims ⟨3, ![E, T, A]⟩ ⟨2, ![E, 2]⟩ ⟨2, ![E, A]⟩) k idx 0 = (idx (ix2 (k 0) 0)).toInt := by
    unfold ScatterDims.start ScatterDims.siIdx ScatterDims.siCoord
    simp
    refine congrArg (fun i => (idx i).toInt) (funext fun b => ?_)
    match b with
    | ⟨0, _⟩ => rfl
    | ⟨1, _⟩ => rfl
  have s1 : ScatterDims.start (⟨[1], [0, 1], [0, 1], 1, wf⟩ : ScatterDims ⟨3, ![E, T, A]⟩ ⟨2, ![E, 2]⟩ ⟨2, ![E, A]⟩) k idx 1 = (idx (ix2 (k 0) 1)).toInt := by
    unfold ScatterDims.start ScatterDims.siIdx ScatterDims.siCoord
    simp
    refine congrArg (fun i => (idx i).toInt) (funext fun b => ?_)
    match b with
    | ⟨0, _⟩ => rfl
    | ⟨1, _⟩ => rfl
  have s2 : ScatterDims.start (⟨[1], [0, 1], [0, 1], 1, wf⟩ : ScatterDims ⟨3, ![E, T, A]⟩ ⟨2, ![E, 2]⟩ ⟨2, ![E, A]⟩) k idx 2 = 0 := by rfl
  have w0 : ScatterDims.window (⟨[1], [0, 1], [0, 1], 1, wf⟩ : ScatterDims ⟨3, ![E, T, A]⟩ ⟨2, ![E, 2]⟩ ⟨2, ![E, A]⟩) k 0 = 0 := by rfl
  have w1 : ScatterDims.window (⟨[1], [0, 1], [0, 1], 1, wf⟩ : ScatterDims ⟨3, ![E, T, A]⟩ ⟨2, ![E, 2]⟩ ⟨2, ![E, A]⟩) k 1 = 0 := by rfl
  have w2 : ScatterDims.window (⟨[1], [0, 1], [0, 1], 1, wf⟩ : ScatterDims ⟨3, ![E, T, A]⟩ ⟨2, ![E, 2]⟩ ⟨2, ![E, A]⟩) k 2 = (k 1).val := by rfl
  replace s0 := s0.trans (h0 (k 0))
  constructor
  · intro h
    have e0 := h 0
    have e1 := h 1
    have e2 := h 2
    rw [s0, w0] at e0
    rw [s1, w1] at e1
    rw [s2, w2] at e2
    have k0 : k 0 = e := Fin.ext (by have : ((ix3 e t a) 0 : ℕ) = e.val := rfl; dsimp only at e0; omega)
    have k1 : k 1 = a := Fin.ext (by have : ((ix3 e t a) 2 : ℕ) = a.val := rfl; omega)
    refine ⟨funext fun b => ?_, ?_⟩
    · match b with
      | ⟨0, _⟩ => exact k0
      | ⟨1, _⟩ => exact k1
    · rw [k0, Nat.cast_zero, add_zero] at e1
      exact e1
  · rintro ⟨rfl, hP⟩ b
    match b with
    | ⟨0, _⟩ => exact (congrArg₂ (fun p q : ℤ => p + q) s0 (congrArg Nat.cast w0)).trans (by rw [Nat.cast_zero, add_zero]; rfl)
    | ⟨1, _⟩ => exact (congrArg₂ (fun p q : ℤ => p + q) s1 (congrArg Nat.cast w1)).trans (by rw [Nat.cast_zero, add_zero]; exact hP)
    | ⟨2, _⟩ => exact (congrArg₂ (fun p q : ℤ => p + q) s2 (congrArg Nat.cast w2)).trans (by rw [zero_add]; rfl)

/-- Rank 4. -/
theorem set4 (wf) (h0 : ∀ e, (idx (ix2 e 0)).toInt = (e.val : ℤ)) (x : (⟨4, ![E, T, A, B]⟩ : Shape).Idx → α)
    (upd : (⟨3, ![E, A, B]⟩ : Shape).Idx → α) (e : Fin E) (t : Fin T) (a : Fin A) (b : Fin B) :
    Host.scatter (⟨[1, 2], [0, 1], [0, 1], 1, wf⟩ : ScatterDims ⟨4, ![E, T, A, B]⟩ ⟨2, ![E, 2]⟩ ⟨3, ![E, A, B]⟩) (fun _ b => b) x idx upd (ix4 e t a b)
      = if (idx (ix2 e 1)).toInt = (t.val : ℤ) then upd (ix3 e a b) else x (ix4 e t a b) := by
  refine set_apply _ x idx upd _ (ix3 e a b) _ fun k => ?_
  have s0 : ScatterDims.start (⟨[1, 2], [0, 1], [0, 1], 1, wf⟩ : ScatterDims ⟨4, ![E, T, A, B]⟩ ⟨2, ![E, 2]⟩ ⟨3, ![E, A, B]⟩) k idx 0 = (idx (ix2 (k 0) 0)).toInt := by
    unfold ScatterDims.start ScatterDims.siIdx ScatterDims.siCoord
    simp
    refine congrArg (fun i => (idx i).toInt) (funext fun b => ?_)
    match b with
    | ⟨0, _⟩ => rfl
    | ⟨1, _⟩ => rfl
  have s1 : ScatterDims.start (⟨[1, 2], [0, 1], [0, 1], 1, wf⟩ : ScatterDims ⟨4, ![E, T, A, B]⟩ ⟨2, ![E, 2]⟩ ⟨3, ![E, A, B]⟩) k idx 1 = (idx (ix2 (k 0) 1)).toInt := by
    unfold ScatterDims.start ScatterDims.siIdx ScatterDims.siCoord
    simp
    refine congrArg (fun i => (idx i).toInt) (funext fun b => ?_)
    match b with
    | ⟨0, _⟩ => rfl
    | ⟨1, _⟩ => rfl
  have s2 : ScatterDims.start (⟨[1, 2], [0, 1], [0, 1], 1, wf⟩ : ScatterDims ⟨4, ![E, T, A, B]⟩ ⟨2, ![E, 2]⟩ ⟨3, ![E, A, B]⟩) k idx 2 = 0 := by rfl
  have s3 : ScatterDims.start (⟨[1, 2], [0, 1], [0, 1], 1, wf⟩ : ScatterDims ⟨4, ![E, T, A, B]⟩ ⟨2, ![E, 2]⟩ ⟨3, ![E, A, B]⟩) k idx 3 = 0 := by rfl
  have w0 : ScatterDims.window (⟨[1, 2], [0, 1], [0, 1], 1, wf⟩ : ScatterDims ⟨4, ![E, T, A, B]⟩ ⟨2, ![E, 2]⟩ ⟨3, ![E, A, B]⟩) k 0 = 0 := by rfl
  have w1 : ScatterDims.window (⟨[1, 2], [0, 1], [0, 1], 1, wf⟩ : ScatterDims ⟨4, ![E, T, A, B]⟩ ⟨2, ![E, 2]⟩ ⟨3, ![E, A, B]⟩) k 1 = 0 := by rfl
  have w2 : ScatterDims.window (⟨[1, 2], [0, 1], [0, 1], 1, wf⟩ : ScatterDims ⟨4, ![E, T, A, B]⟩ ⟨2, ![E, 2]⟩ ⟨3, ![E, A, B]⟩) k 2 = (k 1).val := by rfl
  have w3 : ScatterDims.window (⟨[1, 2], [0, 1], [0, 1], 1, wf⟩ : ScatterDims ⟨4, ![E, T, A, B]⟩ ⟨2, ![E, 2]⟩ ⟨3, ![E, A, B]⟩) k 3 = (k 2).val := by rfl
  replace s0 := s0.trans (h0 (k 0))
  constructor
  · intro h
    have e0 := h 0
    have e1 := h 1
    have e2 := h 2
    have e3 := h 3
    rw [s0, w0] at e0
    rw [s1, w1] at e1
    rw [s2, w2] at e2
    rw [s3, w3] at e3
    have k0 : k 0 = e := Fin.ext (by have : ((ix4 e t a b) 0 : ℕ) = e.val := rfl; dsimp only at e0; omega)
    have k1 : k 1 = a := Fin.ext (by have : ((ix4 e t a b) 2 : ℕ) = a.val := rfl; omega)
    have k2 : k 2 = b := Fin.ext (by have : ((ix4 e t a b) 3 : ℕ) = b.val := rfl; omega)
    refine ⟨funext fun b => ?_, ?_⟩
    · match b with
      | ⟨0, _⟩ => exact k0
      | ⟨1, _⟩ => exact k1
      | ⟨2, _⟩ => exact k2
    · rw [k0, Nat.cast_zero, add_zero] at e1
      exact e1
  · rintro ⟨rfl, hP⟩ b
    match b with
    | ⟨0, _⟩ => exact (congrArg₂ (fun p q : ℤ => p + q) s0 (congrArg Nat.cast w0)).trans (by rw [Nat.cast_zero, add_zero]; rfl)
    | ⟨1, _⟩ => exact (congrArg₂ (fun p q : ℤ => p + q) s1 (congrArg Nat.cast w1)).trans (by rw [Nat.cast_zero, add_zero]; exact hP)
    | ⟨2, _⟩ => exact (congrArg₂ (fun p q : ℤ => p + q) s2 (congrArg Nat.cast w2)).trans (by rw [zero_add]; rfl)
    | ⟨3, _⟩ => exact (congrArg₂ (fun p q : ℤ => p + q) s3 (congrArg Nat.cast w3)).trans (by rw [zero_add]; rfl)

/-- Rank 5. -/
theorem set5 (wf) (h0 : ∀ e, (idx (ix2 e 0)).toInt = (e.val : ℤ)) (x : (⟨5, ![E, T, A, B, C]⟩ : Shape).Idx → α)
    (upd : (⟨4, ![E, A, B, C]⟩ : Shape).Idx → α) (e : Fin E) (t : Fin T) (a : Fin A) (b : Fin B) (c : Fin C) :
    Host.scatter (⟨[1, 2, 3], [0, 1], [0, 1], 1, wf⟩ : ScatterDims ⟨5, ![E, T, A, B, C]⟩ ⟨2, ![E, 2]⟩ ⟨4, ![E, A, B, C]⟩) (fun _ b => b) x idx upd (ix5 e t a b c)
      = if (idx (ix2 e 1)).toInt = (t.val : ℤ) then upd (ix4 e a b c) else x (ix5 e t a b c) := by
  refine set_apply _ x idx upd _ (ix4 e a b c) _ fun k => ?_
  have s0 : ScatterDims.start (⟨[1, 2, 3], [0, 1], [0, 1], 1, wf⟩ : ScatterDims ⟨5, ![E, T, A, B, C]⟩ ⟨2, ![E, 2]⟩ ⟨4, ![E, A, B, C]⟩) k idx 0 = (idx (ix2 (k 0) 0)).toInt := by
    unfold ScatterDims.start ScatterDims.siIdx ScatterDims.siCoord
    simp
    refine congrArg (fun i => (idx i).toInt) (funext fun b => ?_)
    match b with
    | ⟨0, _⟩ => rfl
    | ⟨1, _⟩ => rfl
  have s1 : ScatterDims.start (⟨[1, 2, 3], [0, 1], [0, 1], 1, wf⟩ : ScatterDims ⟨5, ![E, T, A, B, C]⟩ ⟨2, ![E, 2]⟩ ⟨4, ![E, A, B, C]⟩) k idx 1 = (idx (ix2 (k 0) 1)).toInt := by
    unfold ScatterDims.start ScatterDims.siIdx ScatterDims.siCoord
    simp
    refine congrArg (fun i => (idx i).toInt) (funext fun b => ?_)
    match b with
    | ⟨0, _⟩ => rfl
    | ⟨1, _⟩ => rfl
  have s2 : ScatterDims.start (⟨[1, 2, 3], [0, 1], [0, 1], 1, wf⟩ : ScatterDims ⟨5, ![E, T, A, B, C]⟩ ⟨2, ![E, 2]⟩ ⟨4, ![E, A, B, C]⟩) k idx 2 = 0 := by rfl
  have s3 : ScatterDims.start (⟨[1, 2, 3], [0, 1], [0, 1], 1, wf⟩ : ScatterDims ⟨5, ![E, T, A, B, C]⟩ ⟨2, ![E, 2]⟩ ⟨4, ![E, A, B, C]⟩) k idx 3 = 0 := by rfl
  have s4 : ScatterDims.start (⟨[1, 2, 3], [0, 1], [0, 1], 1, wf⟩ : ScatterDims ⟨5, ![E, T, A, B, C]⟩ ⟨2, ![E, 2]⟩ ⟨4, ![E, A, B, C]⟩) k idx 4 = 0 := by rfl
  have w0 : ScatterDims.window (⟨[1, 2, 3], [0, 1], [0, 1], 1, wf⟩ : ScatterDims ⟨5, ![E, T, A, B, C]⟩ ⟨2, ![E, 2]⟩ ⟨4, ![E, A, B, C]⟩) k 0 = 0 := by rfl
  have w1 : ScatterDims.window (⟨[1, 2, 3], [0, 1], [0, 1], 1, wf⟩ : ScatterDims ⟨5, ![E, T, A, B, C]⟩ ⟨2, ![E, 2]⟩ ⟨4, ![E, A, B, C]⟩) k 1 = 0 := by rfl
  have w2 : ScatterDims.window (⟨[1, 2, 3], [0, 1], [0, 1], 1, wf⟩ : ScatterDims ⟨5, ![E, T, A, B, C]⟩ ⟨2, ![E, 2]⟩ ⟨4, ![E, A, B, C]⟩) k 2 = (k 1).val := by rfl
  have w3 : ScatterDims.window (⟨[1, 2, 3], [0, 1], [0, 1], 1, wf⟩ : ScatterDims ⟨5, ![E, T, A, B, C]⟩ ⟨2, ![E, 2]⟩ ⟨4, ![E, A, B, C]⟩) k 3 = (k 2).val := by rfl
  have w4 : ScatterDims.window (⟨[1, 2, 3], [0, 1], [0, 1], 1, wf⟩ : ScatterDims ⟨5, ![E, T, A, B, C]⟩ ⟨2, ![E, 2]⟩ ⟨4, ![E, A, B, C]⟩) k 4 = (k 3).val := by rfl
  replace s0 := s0.trans (h0 (k 0))
  constructor
  · intro h
    have e0 := h 0
    have e1 := h 1
    have e2 := h 2
    have e3 := h 3
    have e4 := h 4
    rw [s0, w0] at e0
    rw [s1, w1] at e1
    rw [s2, w2] at e2
    rw [s3, w3] at e3
    rw [s4, w4] at e4
    have k0 : k 0 = e := Fin.ext (by have : ((ix5 e t a b c) 0 : ℕ) = e.val := rfl; dsimp only at e0; omega)
    have k1 : k 1 = a := Fin.ext (by have : ((ix5 e t a b c) 2 : ℕ) = a.val := rfl; omega)
    have k2 : k 2 = b := Fin.ext (by have : ((ix5 e t a b c) 3 : ℕ) = b.val := rfl; omega)
    have k3 : k 3 = c := Fin.ext (by have : ((ix5 e t a b c) 4 : ℕ) = c.val := rfl; omega)
    refine ⟨funext fun b => ?_, ?_⟩
    · match b with
      | ⟨0, _⟩ => exact k0
      | ⟨1, _⟩ => exact k1
      | ⟨2, _⟩ => exact k2
      | ⟨3, _⟩ => exact k3
    · rw [k0, Nat.cast_zero, add_zero] at e1
      exact e1
  · rintro ⟨rfl, hP⟩ b
    match b with
    | ⟨0, _⟩ => exact (congrArg₂ (fun p q : ℤ => p + q) s0 (congrArg Nat.cast w0)).trans (by rw [Nat.cast_zero, add_zero]; rfl)
    | ⟨1, _⟩ => exact (congrArg₂ (fun p q : ℤ => p + q) s1 (congrArg Nat.cast w1)).trans (by rw [Nat.cast_zero, add_zero]; exact hP)
    | ⟨2, _⟩ => exact (congrArg₂ (fun p q : ℤ => p + q) s2 (congrArg Nat.cast w2)).trans (by rw [zero_add]; rfl)
    | ⟨3, _⟩ => exact (congrArg₂ (fun p q : ℤ => p + q) s3 (congrArg Nat.cast w3)).trans (by rw [zero_add]; rfl)
    | ⟨4, _⟩ => exact (congrArg₂ (fun p q : ℤ => p + q) s4 (congrArg Nat.cast w4)).trans (by rw [zero_add]; rfl)

end Ranks

end Cert.Scatter
-- ==== Proof.RefIndex.lean ====
/-
  The index array of the reference's scatters: row `e` is `(e, step of e)` when the environment words are `0, 1, 2, …` in order
  and no step is negative. And the scatter that adds: where one update lands on each element, it is the pointwise sum.
-/
module

public import Idealize.ShloMosaic.Lib.Routing.OpsSet
public import Idealize.ShloMosaic.Lib.Routing.OpsPair
public import Idealize.ShloMosaic.Lib.Pipeline.Value
public import Idealize.ShloMosaic.Lib.ValueIdx

@[expose] public section

namespace Cert.RefIndex

open Idealize.ShloMosaic Idealize.ShloMosaic.ValueIdx

variable {E : ℕ}

/-- A word that is not negative is not wrapped around. -/
theorem wrap_apply (h) (x y : IVec (⟨1, ![E]⟩ : Shape) 32) (j) (hj : 0 ≤ (x j).toInt) :
    select (cmpi .slt x (broadcastInDim (⟨1, ![E]⟩ : Shape) ![] h (constantI (⟨0, ![]⟩ : Shape) 32 0#32))) y x j = x j := by
  have hlt : (x j).slt 0#32 = false := by
    rw [BitVec.slt]; simp only [BitVec.toInt_zero, decide_eq_false_iff_not, not_lt]; exact hj
  have hc : cmpi .slt x (broadcastInDim (⟨1, ![E]⟩ : Shape) ![] h (constantI (⟨0, ![]⟩ : Shape) 32 0#32)) j = 0#1 := by
    show BitVec.ofBool ((x j).slt 0#32) = 0#1
    rw [hlt]; rfl
  simp only [select, hc]
  rfl

/-- A vector stood up as a column. -/
theorem column_apply {α : Type} (h) (x : (⟨1, ![E]⟩ : Shape).Idx → α) (e : Fin E) :
    broadcastInDim (⟨2, ![E, 1]⟩ : Shape) ![0] h x (ix2 e 0) = x (ix1 e) := by
  unfold broadcastInDim
  refine congrArg x (funext fun a => Fin.ext ?_)
  have ha : a = 0 := Subsingleton.elim _ _
  subst ha
  have he := e.isLt
  by_cases h1 : E = 1
  · subst h1; simp [ix1, ix2]
  · simp [ix1, ix2, h1]
    rfl

/-- A pair's first word is the first column's. -/
theorem pair_fst {α : Type} (h : Shape.Concatenates [(⟨2, ![E, 1]⟩ : Shape), ⟨2, ![E, 1]⟩] ⟨2, ![E, 2]⟩ 1) (x y : (⟨2, ![E, 1]⟩ : Shape).Idx → α) (e : Fin E) :
    concatenate (⟨2, ![E, 2]⟩ : Shape) 1 [⟨⟨2, ![E, 1]⟩, x⟩, ⟨⟨2, ![E, 1]⟩, y⟩] h (ix2 e 0) = x (ix2 e 0) :=
  concatenate_pair_apply_left _ x y h _ rfl _ fun b => by fin_cases b <;> rfl

/-- A pair's second word is the second column's. -/
theorem pair_snd {α : Type} (h : Shape.Concatenates [(⟨2, ![E, 1]⟩ : Shape), ⟨2, ![E, 1]⟩] ⟨2, ![E, 2]⟩ 1) (x y : (⟨2, ![E, 1]⟩ : Shape).Idx → α) (e : Fin E) :
    concatenate (⟨2, ![E, 2]⟩ : Shape) 1 [⟨⟨2, ![E, 1]⟩, x⟩, ⟨⟨2, ![E, 1]⟩, y⟩] h (ix2 e 1) = y (ix2 e 0) :=
  concatenate_pair_apply_right _ x y h _ rfl rfl _ (fun b => by fin_cases b <;> simp [ix2]) rfl

/-- A fold that acts at one element only, of a list without repetitions. -/
theorem foldl_one {ι α : Type} [DecidableEq ι] (n : ι) (f : α → α) (l : List ι) (hl : l.Nodup) (a : α) :
    l.foldl (fun a k => if k = n then f a else a) a = if n ∈ l then f a else a := by
  induction l generalizing a with
  | nil => rfl
  | cons k l ih =>
    rw [List.foldl_cons, ih hl.of_cons]
    by_cases hk : k = n
    · subst hk
      simp [(List.nodup_cons.1 hl).1]
    · simp [hk, Ne.symm hk]

/-- Where one update lands on each element, a scatter combines the two. -/
theorem scatter_once {s si u : Shape} {w : ℕ} {α : Type} (d : ScatterDims s si u) (f : α → α → α) (x : s.Idx → α) (idx : IVec si w)
    (upd : u.Idx → α) (ι : s.Idx) (j : u.Idx) (h : ∀ k : u.Idx, d.resultIdx? k idx = some ι ↔ k = j) :
    Host.scatter d f x idx upd ι = f (x ι) (upd j) := by
  rw [Routing.scatter_at]
  have hstep : (fun a n => if d.resultIdx? (u.rowMajor.symm n) idx = some ι then f a (upd (u.rowMajor.symm n)) else a)
      = fun a n => if n = u.rowMajor j then f a (upd j) else a := by
    funext a n
    by_cases hn : n = u.rowMajor j
    · subst hn
      rw [if_pos rfl, Equiv.symm_apply_apply, if_pos ((h j).2 rfl)]
    · rw [if_neg hn, if_neg fun hk => hn (by rw [← (h _).1 hk, Equiv.apply_symm_apply])]
  rw [hstep, foldl_one (u.rowMajor j) (fun a => f a (upd j)) _ (List.nodup_finRange _), if_pos (List.mem_finRange _)]

end Cert.RefIndex
-- ==== Proof.Own.lean ====
/-
  What the claim's results are, naming no program: each environment's value put at its own row (its step), the fill elsewhere.
  And what the reference's scatters are in these words.
-/
module

public import proofs.«01_k».proof.Proof.Scatter
public import proofs.«01_k».proof.Proof.RefIndex

@[expose] public section

namespace Cert.Own

open Idealize.ShloMosaic Idealize.ShloMosaic.ValueIdx

variable {α : Type} {E : ℕ}

/-- The environment words are `0, 1, 2, …` in order and no step is negative. -/
def Pre (env steps : IVec (⟨1, ![E]⟩ : Shape) 32) : Prop :=
  ∀ e : Fin E, env (ix1 e) = BitVec.ofNat 32 e.val ∧ 0 ≤ (steps (ix1 e)).toInt

variable (steps : IVec (⟨1, ![E]⟩ : Shape) 32) (z : α) (T : ℕ)

/-- One value per environment. -/
def rows1 (x : (⟨1, ![E]⟩ : Shape).Idx → α) : (⟨2, ![E, T]⟩ : Shape).Idx → α :=
  fun i => if (steps (ix1 (i 0))).toInt = ((i 1).val : ℤ) then x (ix1 (i 0)) else z

/-- One vector per environment. -/
def rows2 {A : ℕ} (x : (⟨2, ![E, A]⟩ : Shape).Idx → α) : (⟨3, ![E, T, A]⟩ : Shape).Idx → α :=
  fun i => if (steps (ix1 (i 0))).toInt = ((i 1).val : ℤ) then x (ix2 (i 0) (i 2)) else z

/-- One matrix per environment. -/
def rows3 {A B : ℕ} (x : (⟨3, ![E, A, B]⟩ : Shape).Idx → α) : (⟨4, ![E, T, A, B]⟩ : Shape).Idx → α :=
  fun i => if (steps (ix1 (i 0))).toInt = ((i 1).val : ℤ) then x (ix3 (i 0) (i 2) (i 3)) else z

/-- One array of rank three per environment. -/
def rows4 {A B C : ℕ} (x : (⟨4, ![E, A, B, C]⟩ : Shape).Idx → α) : (⟨5, ![E, T, A, B, C]⟩ : Shape).Idx → α :=
  fun i => if (steps (ix1 (i 0))).toInt = ((i 1).val : ℤ) then x (ix4 (i 0) (i 2) (i 3) (i 4)) else z

/-- Every counter one further. -/
def next (steps : IVec (⟨1, ![E]⟩ : Shape) 32) : IVec (⟨1, ![E]⟩ : Shape) 32 := fun i => IntOp.addi (steps i) 1#32

section Scatters

variable {T} (idx : IVec (⟨2, ![E, 2]⟩ : Shape) 32) (h0 : ∀ e, (idx (ix2 e 0)).toInt = (e.val : ℤ)) (h1 : ∀ e, idx (ix2 e 1) = steps (ix1 e))
include h0 h1

theorem scatter1 (wf) (b : (⟨2, ![E, T]⟩ : Shape).Idx → α) (hb : ∀ i, b i = z) (x : (⟨1, ![E]⟩ : Shape).Idx → α) :
    Host.scatter (⟨[], [0, 1], [0, 1], 1, wf⟩ : ScatterDims ⟨2, ![E, T]⟩ ⟨2, ![E, 2]⟩ ⟨1, ![E]⟩) (fun _ b => b) b idx x = rows1 steps z T x := by
  funext i
  obtain ⟨e, t, rfl⟩ : ∃ e t, i = ix2 e t := ⟨_, _, eq_ix2 i⟩
  rw [Scatter.set2 idx wf h0, h1, hb]
  rfl

theorem scatter2 {A : ℕ} (wf) (b : (⟨3, ![E, T, A]⟩ : Shape).Idx → α) (hb : ∀ i, b i = z) (x : (⟨2, ![E, A]⟩ : Shape).Idx → α) :
    Host.scatter (⟨[1], [0, 1], [0, 1], 1, wf⟩ : ScatterDims ⟨3, ![E, T, A]⟩ ⟨2, ![E, 2]⟩ ⟨2, ![E, A]⟩) (fun _ b => b) b idx x
      = rows2 steps z T x := by
  funext i
  obtain ⟨e, t, a, rfl⟩ : ∃ e t a, i = ix3 e t a := ⟨_, _, _, eq_ix3 i⟩
  rw [Scatter.set3 idx wf h0, h1, hb]
  rfl

theorem scatter3 {A B : ℕ} (wf) (b : (⟨4, ![E, T, A, B]⟩ : Shape).Idx → α) (hb : ∀ i, b i = z) (x : (⟨3, ![E, A, B]⟩ : Shape).Idx → α) :
    Host.scatter (⟨[1, 2], [0, 1], [0, 1], 1, wf⟩ : ScatterDims ⟨4, ![E, T, A, B]⟩ ⟨2, ![E, 2]⟩ ⟨3, ![E, A, B]⟩) (fun _ b => b) b idx x
      = rows3 steps z T x := by
  funext i
  obtain ⟨e, t, a, b', rfl⟩ : ∃ e t a b', i = ix4 e t a b' := ⟨_, _, _, _, eq_ix4 i⟩
  rw [Scatter.set4 idx wf h0, h1, hb]
  rfl

theorem scatter4 {A B C : ℕ} (wf) (b : (⟨5, ![E, T, A, B, C]⟩ : Shape).Idx → α) (hb : ∀ i, b i = z)
    (x : (⟨4, ![E, A, B, C]⟩ : Shape).Idx → α) :
    Host.scatter (⟨[1, 2, 3], [0, 1], [0, 1], 1, wf⟩ : ScatterDims ⟨5, ![E, T, A, B, C]⟩ ⟨2, ![E, 2]⟩ ⟨4, ![E, A, B, C]⟩) (fun _ b => b) b idx x
      = rows4 steps z T x := by
  funext i
  obtain ⟨e, t, a, b', c, rfl⟩ : ∃ e t a b' c, i = ix5 e t a b' c := ⟨_, _, _, _, _, eq_ix5 i⟩
  rw [Scatter.set5 idx wf h0, h1, hb]
  rfl

end Scatters

end Cert.Own
-- ==== Proof.Slabs.lean ====
/-
  What the kernel's blocks say of whole arrays, apart from any program: a block of eight rows chosen by the mask "this row is
  the environment's step" is a block of the array that holds each environment's values at its own step, the environment last.
-/
module

public import Idealize.ShloMosaic.Lib.Pipeline.Value
public import Idealize.ShloMosaic.Lib.ValueIdx
public import proofs.«01_k».proof.Proof.Own

@[expose] public section

namespace Cert.Slabs

open Idealize.ShloMosaic Idealize.ShloMosaic.ValueIdx Cert.Own

variable {α : Type} {E T A B C : ℕ} (steps : (⟨1, ![E]⟩ : Shape).Idx → BitVec 32) (z : α)

/-- Each environment's value at its own step, the step first and the environment last. -/
def slab1 (T : ℕ) (x : (⟨1, ![E]⟩ : Shape).Idx → α) : (⟨2, ![T, E]⟩ : Shape).Idx → α := fun j =>
  if (steps (ix1 (j 1))).toInt = ((j 0).val : ℤ) then x (ix1 (j 1)) else z
/-- The same for rows of values, and for arrays of two and of three axes. -/
def slab2 (T : ℕ) (x : (⟨2, ![E, A]⟩ : Shape).Idx → α) : (⟨3, ![T, A, E]⟩ : Shape).Idx → α := fun j =>
  if (steps (ix1 (j 2))).toInt = ((j 0).val : ℤ) then x (ix2 (j 2) (j 1)) else z
def slab3 (T : ℕ) (x : (⟨3, ![E, A, B]⟩ : Shape).Idx → α) : (⟨4, ![T, A, B, E]⟩ : Shape).Idx → α := fun j =>
  if (steps (ix1 (j 3))).toInt = ((j 0).val : ℤ) then x (ix3 (j 3) (j 1) (j 2)) else z
def slab4 (T : ℕ) (x : (⟨4, ![E, A, B, C]⟩ : Shape).Idx → α) : (⟨5, ![T, A, B, C, E]⟩ : Shape).Idx → α := fun j =>
  if (steps (ix1 (j 4))).toInt = ((j 0).val : ℤ) then x (ix4 (j 4) (j 1) (j 2) (j 3)) else z

/-! The environment moved to the front. -/

theorem front1 (x : (⟨1, ![E]⟩ : Shape).Idx → α) (h) :
    transpose (⟨2, ![E, T]⟩ : Shape) [1, 0] (slab1 steps z T x) h = rows1 steps z T x := by
  funext i
  obtain ⟨e, t, rfl⟩ : ∃ e t, i = ix2 e t := ⟨_, _, eq_ix2 i⟩
  rw [transpose_apply _ _ h _ (ix2 t e) (fun b => by fin_cases b <;> rfl)]
  rfl
theorem front2 (x : (⟨2, ![E, A]⟩ : Shape).Idx → α) (h) :
    transpose (⟨3, ![E, T, A]⟩ : Shape) [2, 0, 1] (slab2 steps z T x) h = rows2 steps z T x := by
  funext i
  obtain ⟨e, t, a, rfl⟩ : ∃ e t a, i = ix3 e t a := ⟨_, _, _, eq_ix3 i⟩
  rw [transpose_apply _ _ h _ (ix3 t a e) (fun b => by fin_cases b <;> rfl)]
  rfl
theorem front3 (x : (⟨3, ![E, A, B]⟩ : Shape).Idx → α) (h) :
    transpose (⟨4, ![E, T, A, B]⟩ : Shape) [3, 0, 1, 2] (slab3 steps z T x) h = rows3 steps z T x := by
  funext i
  obtain ⟨e, t, a, b', rfl⟩ : ∃ e t a b', i = ix4 e t a b' := ⟨_, _, _, _, eq_ix4 i⟩
  rw [transpose_apply _ _ h _ (ix4 t a b' e) (fun b => by fin_cases b <;> rfl)]
  rfl
theorem front4 (x : (⟨4, ![E, A, B, C]⟩ : Shape).Idx → α) (h) :
    transpose (⟨5, ![E, T, A, B, C]⟩ : Shape) [4, 0, 1, 2, 3] (slab4 steps z T x) h = rows4 steps z T x := by
  funext i
  obtain ⟨e, t, a, b', c', rfl⟩ : ∃ e t a b' c', i = ix5 e t a b' c' := ⟨_, _, _, _, _, eq_ix5 i⟩
  rw [transpose_apply _ _ h _ (ix5 t a b' c' e) (fun b => by fin_cases b <;> rfl)]
  rfl

/-! The environment moved to the end and a unit axis put in front, as the kernel takes its inputs. -/

theorem back1 (x : (⟨1, ![E]⟩ : Shape).Idx → α) (h) (e : Fin E) :
    shapeCast (⟨2, ![1, E]⟩ : Shape) x h (ix2 0 e) = x (ix1 e) := by
  rw [shapeCast_addUnit_apply]
  exact congrArg x (funext fun a => by fin_cases a; rfl)
theorem back2 (x : (⟨2, ![E, A]⟩ : Shape).Idx → α) (h h') (a : Fin A) (e : Fin E) :
    shapeCast (⟨3, ![1, A, E]⟩ : Shape) (transpose (⟨2, ![A, E]⟩ : Shape) [1, 0] x h) h' (ix3 0 a e) = x (ix2 e a) := by
  rw [shapeCast_addUnit_apply]
  exact transpose_apply _ _ h _ _ (fun b => by fin_cases b <;> rfl)
theorem back3 (x : (⟨3, ![E, A, B]⟩ : Shape).Idx → α) (h h') (a : Fin A) (b : Fin B) (e : Fin E) :
    shapeCast (⟨4, ![1, A, B, E]⟩ : Shape) (transpose (⟨3, ![A, B, E]⟩ : Shape) [1, 2, 0] x h) h' (ix4 0 a b e) = x (ix3 e a b) := by
  rw [shapeCast_addUnit_apply]
  exact transpose_apply _ _ h _ _ (fun b => by fin_cases b <;> rfl)
theorem back4 (x : (⟨4, ![E, A, B, C]⟩ : Shape).Idx → α) (h h') (a : Fin A) (b : Fin B) (c : Fin C) (e : Fin E) :
    shapeCast (⟨5, ![1, A, B, C, E]⟩ : Shape) (transpose (⟨4, ![A, B, C, E]⟩ : Shape) [1, 2, 3, 0] x h) h' (ix5 0 a b c e)
      = x (ix4 e a b c) := by
  rw [shapeCast_addUnit_apply]
  exact transpose_apply _ _ h _ _ (fun b => by fin_cases b <;> rfl)

/-! Unit axes put in front of a row of values. -/

theorem unit1 (x : (⟨1, ![E]⟩ : Shape).Idx → α) (h) (e : Fin E) :
    shapeCast (⟨2, ![1, E]⟩ : Shape) x h (ix2 0 e) = x (ix1 e) := back1 x h e
theorem unit2 (x : (⟨1, ![E]⟩ : Shape).Idx → α) (h) (e : Fin E) :
    shapeCast (⟨3, ![1, 1, E]⟩ : Shape) x h (ix3 0 0 e) = x (ix1 e) :=
  shapeCast_apply x h _ _ (by
    rw [Shape.rowMajor_val_one, Shape.rowMajor_val_three]
    show e.val = (0 * 1 + 0) * E + e.val
    simp only [Nat.zero_mul, Nat.zero_add])
theorem unit3 (x : (⟨1, ![E]⟩ : Shape).Idx → α) (h) (e : Fin E) :
    shapeCast (⟨4, ![1, 1, 1, E]⟩ : Shape) x h (ix4 0 0 0 e) = x (ix1 e) :=
  shapeCast_apply x h _ _ (by
    rw [Shape.rowMajor_val_one, Shape.rowMajor_val_four]
    show e.val = ((0 * 1 + 0) * 1 + 0) * E + e.val
    simp only [Nat.zero_mul, Nat.zero_add])
theorem unit4 (x : (⟨1, ![E]⟩ : Shape).Idx → α) (h) (e : Fin E) :
    shapeCast (⟨5, ![1, 1, 1, 1, E]⟩ : Shape) x h (ix5 0 0 0 0 e) = x (ix1 e) :=
  shapeCast_apply x h _ _ (by
    rw [Shape.rowMajor_val_one, Shape.rowMajor_val_five]
    show e.val = (((0 * 1 + 0) * 1 + 0) * 1 + 0) * E + e.val
    simp only [Nat.zero_mul, Nat.zero_add])

/-- Row `k` of block `t` is the step `s` exactly when the words are equal. -/
theorem hit (s : BitVec 32) (t k : ℕ) (ht : t < 8) (hk : k < 8) :
    (BitVec.ofNat 32 k + BitVec.ofNat 32 t * 8#32 = s) ↔ s.toInt = ((t * 8 + k : ℕ) : ℤ) := by
  have h : BitVec.ofNat 32 k + BitVec.ofNat 32 t * 8#32 = BitVec.ofNat 32 (t * 8 + k) := by
    apply BitVec.eq_of_toNat_eq
    simp only [BitVec.toNat_add, BitVec.toNat_mul, BitVec.toNat_ofNat]
    omega
  have h' : (BitVec.ofNat 32 (t * 8 + k)).toInt = ((t * 8 + k : ℕ) : ℤ) := by
    rw [BitVec.toInt_eq_toNat_of_lt] <;> simp only [BitVec.toNat_ofNat] <;> omega
  rw [h, ← BitVec.toInt_inj, h']
  exact eq_comm

/-- A mask: at row `k` of block `t`, whether it is the environment's step. -/
def Hits (t : ℕ) (b : BitVec 1) (s : BitVec 32) (k : ℕ) : Prop := b = BitVec.ofBool (decide (s.toInt = ((t * 8 + k : ℕ) : ℤ)))

theorem hits_of_eq (s b : BitVec 32) (t k : ℕ) (ht : t < 8) (hk : k < 8)
    (h : b = BitVec.ofNat 32 k + BitVec.ofNat 32 t * 8#32) : Hits t (BitVec.ofBool (b == s)) s k := by
  unfold Hits
  congr 1
  rw [h, Bool.eq_iff_iff, beq_iff_eq, decide_eq_true_iff]
  exact hit s t k ht hk

/-- A word selected by the mask. -/
theorem pick {t k : ℕ} {b : BitVec 1} {s : BitVec 32} (h : Hits t b s k) (x z : α) (n : ℕ) (hn : n = t * 8 + k) :
    Scalar.select b x z = if s.toInt = (n : ℤ) then x else z := by
  subst hn
  unfold Hits at h
  subst h
  unfold Scalar.select
  by_cases hs : s.toInt = ((t * 8 + k : ℕ) : ℤ)
  · rw [if_pos hs, decide_eq_true hs]; rfl
  · rw [if_neg hs, decide_eq_false hs]; rfl

/-! A block of the array, from the mask and the block of values. -/

variable {t : ℕ}

theorem block1 (x : (⟨1, ![E]⟩ : Shape).Idx → α) (mask : IVec (⟨2, ![8, E]⟩ : Shape) 1) (v : (⟨2, ![1, E]⟩ : Shape).Idx → α)
    (hm : ∀ k e, Hits t (mask (ix2 k e)) (steps (ix1 e)) k.val) (hv : ∀ e, v (ix2 0 e) = x (ix1 e)) (h₁ h₂ h₃)
    (y : (⟨2, ![8, E]⟩ : Shape).Idx) (j : (⟨2, ![T, E]⟩ : Shape).Idx) (h0 : (j 0).val = t * 8 + (y 0).val) (h1 : (j 1).val = (y 1).val) :
    select mask (broadcastTo (⟨2, ![8, E]⟩ : Shape) (shapeCast (⟨2, ![1, E]⟩ : Shape) (shapeCast (⟨2, ![1, E]⟩ : Shape) v h₁) h₂) h₃)
        (broadcast (⟨2, ![8, E]⟩ : Shape) z) y = slab1 steps z T x j := by
  rw [shapeCast_self, shapeCast_self]
  obtain ⟨k, e, rfl⟩ : ∃ k e, y = ix2 k e := ⟨_, _, eq_ix2 y⟩
  have e1 : j 1 = e := Fin.ext h1
  unfold select slab1
  rw [pick (hm k e) _ _ _ h0, e1, broadcastTo_apply v h₃ (ix2 k e) (ix2 0 e) (fun a => by
    fin_cases a
    · rfl
    · show e.val = if E = 1 then 0 else e.val
      split_ifs with h <;> omega), hv]
  rfl
theorem block2 (x : (⟨2, ![E, A]⟩ : Shape).Idx → α) (mask : IVec (⟨3, ![8, 1, E]⟩ : Shape) 1) (v : (⟨3, ![1, A, E]⟩ : Shape).Idx → α)
    (hm : ∀ k e, Hits t (mask (ix3 k 0 e)) (steps (ix1 e)) k.val) (hv : ∀ a e, v (ix3 0 a e) = x (ix2 e a)) (h₁ h₂ h₃ h₄ h₅)
    (y : (⟨3, ![8, A, E]⟩ : Shape).Idx) (j : (⟨3, ![T, A, E]⟩ : Shape).Idx) (h0 : (j 0).val = t * 8 + (y 0).val)
    (h1 : (j 1).val = (y 1).val) (h2 : (j 2).val = (y 2).val) :
    select (broadcastTo (⟨3, ![8, A, E]⟩ : Shape) (shapeCast (⟨3, ![8, 1, E]⟩ : Shape) mask h₄) h₅)
        (broadcastTo (⟨3, ![8, A, E]⟩ : Shape) (shapeCast (⟨3, ![1, A, E]⟩ : Shape) (shapeCast (⟨3, ![1, A, E]⟩ : Shape) v h₁) h₂) h₃)
        (broadcast (⟨3, ![8, A, E]⟩ : Shape) z) y = slab2 steps z T x j := by
  rw [shapeCast_self, shapeCast_self, shapeCast_self]
  obtain ⟨k, a, e, rfl⟩ : ∃ k a e, y = ix3 k a e := ⟨_, _, _, eq_ix3 y⟩
  have e1 : j 1 = a := Fin.ext h1
  have e2 : j 2 = e := Fin.ext h2
  unfold select slab2
  rw [broadcastTo_apply mask h₅ (ix3 k a e) (ix3 k 0 e) (fun b => by
      fin_cases b
      · rfl
      · rfl
      · show e.val = if E = 1 then 0 else e.val
        split_ifs with h <;> omega),
    pick (hm k e) _ _ _ h0, e1, e2, broadcastTo_apply v h₃ (ix3 k a e) (ix3 0 a e) (fun b => by
      fin_cases b
      · rfl
      · show a.val = if A = 1 then 0 else a.val
        split_ifs with h <;> omega
      · show e.val = if E = 1 then 0 else e.val
        split_ifs with h <;> omega), hv]
  rfl
theorem block3 (x : (⟨3, ![E, A, B]⟩ : Shape).Idx → α) (mask : IVec (⟨4, ![8, 1, 1, E]⟩ : Shape) 1)
    (v : (⟨4, ![1, A, B, E]⟩ : Shape).Idx → α) (hm : ∀ k e, Hits t (mask (ix4 k 0 0 e)) (steps (ix1 e)) k.val)
    (hv : ∀ a b e, v (ix4 0 a b e) = x (ix3 e a b)) (h₁ h₂ h₃ h₄ h₅)
    (y : (⟨4, ![8, A, B, E]⟩ : Shape).Idx) (j : (⟨4, ![T, A, B, E]⟩ : Shape).Idx) (h0 : (j 0).val = t * 8 + (y 0).val)
    (h1 : (j 1).val = (y 1).val) (h2 : (j 2).val = (y 2).val) (h3 : (j 3).val = (y 3).val) :
    select (broadcastTo (⟨4, ![8, A, B, E]⟩ : Shape) (shapeCast (⟨4, ![8, 1, 1, E]⟩ : Shape) mask h₄) h₅)
        (broadcastTo (⟨4, ![8, A, B, E]⟩ : Shape) (shapeCast (⟨4, ![1, A, B, E]⟩ : Shape) (shapeCast (⟨4, ![1, A, B, E]⟩ : Shape) v h₁) h₂) h₃)
        (broadcast (⟨4, ![8, A, B, E]⟩ : Shape) z) y = slab3 steps z T x j := by
  rw [shapeCast_self, shapeCast_self, shapeCast_self]
  obtain ⟨k, a, b', e, rfl⟩ : ∃ k a b' e, y = ix4 k a b' e := ⟨_, _, _, _, eq_ix4 y⟩
  have e1 : j 1 = a := Fin.ext h1
  have e2 : j 2 = b' := Fin.ext h2
  have e3 : j 3 = e := Fin.ext h3
  unfold select slab3
  rw [broadcastTo_apply mask h₅ (ix4 k a b' e) (ix4 k 0 0 e) (fun b => by
      fin_cases b
      · rfl
      · rfl
      · rfl
      · show e.val = if E = 1 then 0 else e.val
        split_ifs with h <;> omega),
    pick (hm k e) _ _ _ h0, e1, e2, e3, broadcastTo_apply v h₃ (ix4 k a b' e) (ix4 0 a b' e) (fun b => by
      fin_cases b
      · rfl
      · show a.val = if A = 1 then 0 else a.val
        split_ifs with h <;> omega
      · show b'.val = if B = 1 then 0 else b'.val
        split_ifs with h <;> omega
      · show e.val = if E = 1 then 0 else e.val
        split_ifs with h <;> omega), hv]
  rfl
theorem block4 (x : (⟨4, ![E, A, B, C]⟩ : Shape).Idx → α) (mask : IVec (⟨5, ![8, 1, 1, 1, E]⟩ : Shape) 1)
    (v : (⟨5, ![1, A, B, C, E]⟩ : Shape).Idx → α) (hm : ∀ k e, Hits t (mask (ix5 k 0 0 0 e)) (steps (ix1 e)) k.val)
    (hv : ∀ a b c e, v (ix5 0 a b c e) = x (ix4 e a b c)) (h₁ h₂ h₃ h₄ h₅)
    (y : (⟨5, ![8, A, B, C, E]⟩ : Shape).Idx) (j : (⟨5, ![T, A, B, C, E]⟩ : Shape).Idx) (h0 : (j 0).val = t * 8 + (y 0).val)
    (h1 : (j 1).val = (y 1).val) (h2 : (j 2).val = (y 2).val) (h3 : (j 3).val = (y 3).val) (h4 : (j 4).val = (y 4).val) :
    select (broadcastTo (⟨5, ![8, A, B, C, E]⟩ : Shape) (shapeCast (⟨5, ![8, 1, 1, 1, E]⟩ : Shape) mask h₄) h₅)
        (broadcastTo (⟨5, ![8, A, B, C, E]⟩ : Shape) (shapeCast (⟨5, ![1, A, B, C, E]⟩ : Shape) (shapeCast (⟨5, ![1, A, B, C, E]⟩ : Shape) v h₁) h₂) h₃)
        (broadcast (⟨5, ![8, A, B, C, E]⟩ : Shape) z) y = slab4 steps z T x j := by
  rw [shapeCast_self, shapeCast_self, shapeCast_self]
  obtain ⟨k, a, b', c', e, rfl⟩ : ∃ k a b' c' e, y = ix5 k a b' c' e := ⟨_, _, _, _, _, eq_ix5 y⟩
  have e1 : j 1 = a := Fin.ext h1
  have e2 : j 2 = b' := Fin.ext h2
  have e3 : j 3 = c' := Fin.ext h3
  have e4 : j 4 = e := Fin.ext h4
  unfold select slab4
  rw [broadcastTo_apply mask h₅ (ix5 k a b' c' e) (ix5 k 0 0 0 e) (fun b => by
      fin_cases b
      · rfl
      · rfl
      · rfl
      · rfl
      · show e.val = if E = 1 then 0 else e.val
        split_ifs with h <;> omega),
    pick (hm k e) _ _ _ h0, e1, e2, e3, e4, broadcastTo_apply v h₃ (ix5 k a b' c' e) (ix5 0 a b' c' e) (fun b => by
      fin_cases b
      · rfl
      · show a.val = if A = 1 then 0 else a.val
        split_ifs with h <;> omega
      · show b'.val = if B = 1 then 0 else b'.val
        split_ifs with h <;> omega
      · show c'.val = if C = 1 then 0 else c'.val
        split_ifs with h <;> omega
      · show e.val = if E = 1 then 0 else e.val
        split_ifs with h <;> omega), hv]
  rfl

end Cert.Slabs
-- ==== Proof.Arrays.lean ====
/-
  What the kernel's input arrays hold when the launch starts: each is an argument, the environment moved to the end and a
  unit axis put in front.
-/
module

public import proofs.«01_k».proof.Proof.Gen.KernelIdeal.Frame
public import proofs.«01_k».proof.Proof.Slabs
public import Idealize.ShloMosaic.Lib.StableHlo.RunRead
public import Idealize.ShloMosaic.Lib.Claim

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ)

theorem V_v1 (c : Dev nD) : V m c main_v1 = shapeCast S1x64x256 (transpose S64x256 [1, 0] (m ((c.tc : Thread nD τ).loc main_arg2)) transposes_S256x64_S64x256_1_0) shapeCasts_S64x256_S1x64x256 := by
  unfold_abbrev_sides
  after_reads_simp
  rfl

theorem V_v3 (c : Dev nD) : V m c main_v3 = shapeCast S1x64x256 (transpose S64x256 [1, 0] (m ((c.tc : Thread nD τ).loc main_arg3)) transposes_S256x64_S64x256_1_0) shapeCasts_S64x256_S1x64x256 := by
  unfold_abbrev_sides
  after_reads_simp
  rfl

theorem V_v5 (c : Dev nD) : V m c main_v5 = shapeCast S1x64x256 (transpose S64x256 [1, 0] (m ((c.tc : Thread nD τ).loc main_arg4)) transposes_S256x64_S64x256_1_0) shapeCasts_S64x256_S1x64x256 := by
  unfold_abbrev_sides
  after_reads_simp
  rfl

theorem V_v7 (c : Dev nD) : V m c main_v7 = shapeCast S1x64x256 (transpose S64x256 [1, 0] (m ((c.tc : Thread nD τ).loc main_arg5)) transposes_S256x64_S64x256_1_0) shapeCasts_S64x256_S1x64x256 := by
  unfold_abbrev_sides
  after_reads_simp
  rfl

theorem V_v9 (c : Dev nD) : V m c main_v9 = shapeCast S1x32x256 (transpose S32x256 [1, 0] (m ((c.tc : Thread nD τ).loc main_arg8)) transposes_S256x32_S32x256_1_0) shapeCasts_S32x256_S1x32x256 := by
  unfold_abbrev_sides
  after_reads_simp
  rfl

theorem V_v11 (c : Dev nD) : V m c main_v11 = shapeCast S1x32x256 (transpose S32x256 [1, 0] (m ((c.tc : Thread nD τ).loc main_arg10)) transposes_S256x32_S32x256_1_0) shapeCasts_S32x256_S1x32x256 := by
  unfold_abbrev_sides
  after_reads_simp
  rfl

theorem V_v13 (c : Dev nD) : V m c main_v13 = shapeCast S1x32x256 (transpose S32x256 [1, 0] (m ((c.tc : Thread nD τ).loc main_arg11)) transposes_S256x32_S32x256_1_0) shapeCasts_S32x256_S1x32x256 := by
  unfold_abbrev_sides
  after_reads_simp
  rfl

theorem V_v15 (c : Dev nD) : V m c main_v15 = shapeCast S1x32x256 (transpose S32x256 [1, 0] (m ((c.tc : Thread nD τ).loc main_arg12)) transposes_S256x32_S32x256_1_0) shapeCasts_S32x256_S1x32x256 := by
  unfold_abbrev_sides
  after_reads_simp
  rfl

theorem V_v17 (c : Dev nD) : V m c main_v17 = shapeCast S1x32x256 (transpose S32x256 [1, 0] (m ((c.tc : Thread nD τ).loc main_arg16)) transposes_S256x32_S32x256_1_0) shapeCasts_S32x256_S1x32x256 := by
  unfold_abbrev_sides
  after_reads_simp
  rfl

theorem V_v19 (c : Dev nD) : V m c main_v19 = shapeCast S1x32x16x256 (transpose S32x16x256 [1, 2, 0] (m ((c.tc : Thread nD τ).loc main_arg9)) transposes_S256x32x16_S32x16x256_1_2_0) shapeCasts_S32x16x256_S1x32x16x256 := by
  unfold_abbrev_sides
  after_reads_simp
  rfl

theorem V_v21 (c : Dev nD) : V m c main_v21 = shapeCast S1x32x4x256 (transpose S32x4x256 [1, 2, 0] (m ((c.tc : Thread nD τ).loc main_arg13)) transposes_S256x32x4_S32x4x256_1_2_0) shapeCasts_S32x4x256_S1x32x4x256 := by
  unfold_abbrev_sides
  after_reads_simp
  rfl

theorem V_v23 (c : Dev nD) : V m c main_v23 = shapeCast S1x32x4x256 (transpose S32x4x256 [1, 2, 0] (m ((c.tc : Thread nD τ).loc main_arg14)) transposes_S256x32x4_S32x4x256_1_2_0) shapeCasts_S32x4x256_S1x32x4x256 := by
  unfold_abbrev_sides
  after_reads_simp
  rfl

theorem V_v25 (c : Dev nD) : V m c main_v25 = shapeCast S1x32x4x256 (transpose S32x4x256 [1, 2, 0] (m ((c.tc : Thread nD τ).loc main_arg17)) transposes_S256x32x4_S32x4x256_1_2_0) shapeCasts_S32x4x256_S1x32x4x256 := by
  unfold_abbrev_sides
  after_reads_simp
  rfl

theorem V_v27 (c : Dev nD) : V m c main_v27 = shapeCast S1x32x4x8x256 (transpose S32x4x8x256 [1, 2, 3, 0] (m ((c.tc : Thread nD τ).loc main_arg15)) transposes_S256x32x4x8_S32x4x8x256_1_2_3_0) shapeCasts_S32x4x8x256_S1x32x4x8x256 := by
  unfold_abbrev_sides
  after_reads_simp
  rfl

theorem V_v28 (c : Dev nD) : V m c main_v28 = shapeCast S1x256 (m ((c.tc : Thread nD τ).loc main_arg6)) shapeCasts_S256_S1x256 := by
  unfold_abbrev_sides
  after_reads_simp
  rfl

theorem V_v29 (c : Dev nD) : V m c main_v29 = shapeCast S1x256 (m ((c.tc : Thread nD τ).loc main_arg7)) shapeCasts_S256_S1x256 := by
  unfold_abbrev_sides
  after_reads_simp
  rfl

theorem V_v30 (c : Dev nD) : V m c main_v30 = shapeCast S1x256 (m ((c.tc : Thread nD τ).loc main_arg20)) shapeCasts_S256_S1x256 := by
  unfold_abbrev_sides
  after_reads_simp
  rfl

theorem V_v31 (c : Dev nD) : V m c main_v31 = shapeCast S1x256 (m ((c.tc : Thread nD τ).loc main_arg21)) shapeCasts_S256_S1x256 := by
  unfold_abbrev_sides
  after_reads_simp
  rfl

theorem V_v32 (c : Dev nD) : V m c main_v32 = shapeCast S1x256 (m ((c.tc : Thread nD τ).loc main_arg22)) shapeCasts_S256_S1x256 := by
  unfold_abbrev_sides
  after_reads_simp
  rfl

theorem V_v33 (c : Dev nD) : V m c main_v33 = shapeCast S1x256 (m ((c.tc : Thread nD τ).loc main_arg23)) shapeCasts_S256_S1x256 := by
  unfold_abbrev_sides
  after_reads_simp
  rfl

theorem V_v34 (c : Dev nD) : V m c main_v34 = shapeCast S1x256 (m ((c.tc : Thread nD τ).loc main_arg1)) shapeCasts_S256_S1x256 := by
  unfold_abbrev_sides
  after_reads_simp
  rfl

theorem V_v35 (c : Dev nD) : V m c main_v35 = shapeCast S1x1x256 (m ((c.tc : Thread nD τ).loc main_arg1)) shapeCasts_S256_S1x1x256 := by
  unfold_abbrev_sides
  after_reads_simp
  rfl

theorem V_v36 (c : Dev nD) : V m c main_v36 = shapeCast S1x1x1x256 (m ((c.tc : Thread nD τ).loc main_arg1)) shapeCasts_S256_S1x1x1x256 := by
  unfold_abbrev_sides
  after_reads_simp
  rfl

theorem V_v37 (c : Dev nD) : V m c main_v37 = shapeCast S1x1x1x1x256 (m ((c.tc : Thread nD τ).loc main_arg1)) shapeCasts_S256_S1x1x1x1x256 := by
  unfold_abbrev_sides
  after_reads_simp
  rfl

end Cert.KernelIdeal.Hand
-- ==== Proof.Blocks3.lean ====
/-
  What the kernel finds in its input blocks: the steps, in the four ranks it compares them in.
-/
module

public import proofs.«01_k».proof.Proof.Arrays
public import proofs.«01_k».proof.Proof.Slabs
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ)

theorem in20 (c : Dev nD) (t : Fin cfg0.N) (e : Fin 256) : iblk m c 20 t (ix2 0 e) = m ((c.tc : Thread nD τ).loc main_arg1) (ix1 e) := by
  blk_simp [iblk]
  have h : (win0_20.blk t).view.emb (ix2 0 e) = (ix2 0 e) := by
    funext x
    apply Fin.ext
    fin_cases x <;> blk_simp <;> first | rfl | exact Nat.zero_add _
  rw [h, V_v34]
  exact unit1 _ _ e

theorem in21 (c : Dev nD) (t : Fin cfg0.N) (e : Fin 256) : iblk m c 21 t (ix3 0 0 e) = m ((c.tc : Thread nD τ).loc main_arg1) (ix1 e) := by
  blk_simp [iblk]
  have h : (win0_21.blk t).view.emb (ix3 0 0 e) = (ix3 0 0 e) := by
    funext x
    apply Fin.ext
    fin_cases x <;> blk_simp <;> first | rfl | exact Nat.zero_add _
  rw [h, V_v35]
  exact unit2 _ _ e

theorem in22 (c : Dev nD) (t : Fin cfg0.N) (e : Fin 256) : iblk m c 22 t (ix4 0 0 0 e) = m ((c.tc : Thread nD τ).loc main_arg1) (ix1 e) := by
  blk_simp [iblk]
  have h : (win0_22.blk t).view.emb (ix4 0 0 0 e) = (ix4 0 0 0 e) := by
    funext x
    apply Fin.ext
    fin_cases x <;> blk_simp <;> first | rfl | exact Nat.zero_add _
  rw [h, V_v36]
  exact unit3 _ _ e

theorem in23 (c : Dev nD) (t : Fin cfg0.N) (e : Fin 256) : iblk m c 23 t (ix5 0 0 0 0 e) = m ((c.tc : Thread nD τ).loc main_arg1) (ix1 e) := by
  blk_simp [iblk]
  have h : (win0_23.blk t).view.emb (ix5 0 0 0 0 e) = (ix5 0 0 0 0 e) := by
    funext x
    apply Fin.ext
    fin_cases x <;> blk_simp <;> first | rfl | exact Nat.zero_add _
  rw [h, V_v37]
  exact unit4 _ _ e

end Cert.KernelIdeal.Hand
-- ==== Proof.Masks.lean ====
/-
  The kernel's masks: at row `k` of the block of point `t`, whether row `8 t + k` is the environment's step. The kernel works
  the mask out in four ranks, one for each rank of block it is used on.
-/
module

public import proofs.«01_k».proof.Proof.Blocks3
public import proofs.«01_k».proof.Proof.Data

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- The steps, as the launch finds them. -/
abbrev steps (c : Dev nD) : S256.Idx → BitVec 32 := m ((c.tc : Thread nD τ).loc main_arg1)

theorem coord_eq (t : Fin cfg0.N) : (grid0.coords t 0).val = t.val :=
  (by decide +kernel : ∀ t : Fin grid0.N, (grid0.coords t 0).val = t.val) t
theorem point_lt (t : Fin cfg0.N) : t.val < 8 := t.isLt

/-- Where a block's row lies in its array: block `t` starts at row `8 t`. -/
theorem row_of_point (w : Pipeline.Window sig grid0) (t : Fin grid0.N) (y : (w.xblock (grid0.coords t)).Idx) (a : Fin w.shape.rank)
    (hk : w.kind = .blocked) (hs : w.size a = 8) (h : w.index t a = (grid0.coords t 0).val) :
    ((w.rect t).emb y a : ℕ) = t.val * 8 + (y a : ℕ) := by
  rw [w.rect_emb_val t y a hk, hs, h]
  exact congrArg (· * 8 + _) (coord_eq t)
theorem row_of_zero (n r : ℕ) : 0 * n + r = r := by rw [Nat.zero_mul, Nat.zero_add]

/-! The kernel's mask on a row of steps `v`, at a row and an environment. -/

theorem match2 (v : IVec S1x256 32) (s : BitVec 32) (t : Fin cfg0.N) (k : Fin 8) (e : Fin 256) (hv : v (ix2 0 e) = s) :
    Hits t.val (k0_pay4 (F := F) (grid0.coords t) v (ix2 k e)) s k.val := by
  have h : broadcastTo S8x256 (shapeCast S1x256 v shapeCasts_S1x256_S1x256) broadcasts_S1x256_S8x256 (ix2 k e) = s := by
    rw [shapeCast_self, broadcastTo_apply _ _ (ix2 k e) (ix2 0 e) (fun b => by fin_cases b <;> rfl), hv]
  subst h
  refine hits_of_eq _ _ t.val k.val (point_lt t) k.isLt ?_
  show iota .tc S8x256 32 [0] iota_S8x256_d0_w32 (ix2 k e) + BitVec.ofNat 32 (grid0.coords t 0).val * 8#32 = _
  rw [coord_eq]
  congr 1
  exact iota_single_apply _ _ _ _ _ _
theorem match3 (v : IVec S1x1x256 32) (s : BitVec 32) (t : Fin cfg0.N) (k : Fin 8) (e : Fin 256) (hv : v (ix3 0 0 e) = s) :
    Hits t.val (k0_pay5 (F := F) (grid0.coords t) v (ix3 k 0 e)) s k.val := by
  have h : broadcastTo S8x1x256 (shapeCast S1x1x256 v shapeCasts_S1x1x256_S1x1x256) broadcasts_S1x1x256_S8x1x256 (ix3 k 0 e) = s := by
    rw [shapeCast_self, broadcastTo_apply _ _ (ix3 k 0 e) (ix3 0 0 e) (fun b => by fin_cases b <;> rfl), hv]
  subst h
  refine hits_of_eq _ _ t.val k.val (point_lt t) k.isLt ?_
  show iota .tc S8x1x256 32 [0] iota_S8x1x256_d0_w32 (ix3 k 0 e) + BitVec.ofNat 32 (grid0.coords t 0).val * 8#32 = _
  rw [coord_eq]
  congr 1
  exact iota_single_apply _ _ _ _ _ _
theorem match4 (v : IVec S1x1x1x256 32) (s : BitVec 32) (t : Fin cfg0.N) (k : Fin 8) (e : Fin 256) (hv : v (ix4 0 0 0 e) = s) :
    Hits t.val (k0_pay6 (F := F) (grid0.coords t) v (ix4 k 0 0 e)) s k.val := by
  have h : broadcastTo S8x1x1x256 (shapeCast S1x1x1x256 v shapeCasts_S1x1x1x256_S1x1x1x256) broadcasts_S1x1x1x256_S8x1x1x256 (ix4 k 0 0 e) = s := by
    rw [shapeCast_self, broadcastTo_apply _ _ (ix4 k 0 0 e) (ix4 0 0 0 e) (fun b => by fin_cases b <;> rfl), hv]
  subst h
  refine hits_of_eq _ _ t.val k.val (point_lt t) k.isLt ?_
  show iota .tc S8x1x1x256 32 [0] iota_S8x1x1x256_d0_w32 (ix4 k 0 0 e) + BitVec.ofNat 32 (grid0.coords t 0).val * 8#32 = _
  rw [coord_eq]
  congr 1
  exact iota_single_apply _ _ _ _ _ _
theorem match5 (v : IVec S1x1x1x1x256 32) (s : BitVec 32) (t : Fin cfg0.N) (k : Fin 8) (e : Fin 256) (hv : v (ix5 0 0 0 0 e) = s) :
    Hits t.val (k0_pay7 (F := F) (grid0.coords t) v (ix5 k 0 0 0 e)) s k.val := by
  have h : broadcastTo S8x1x1x1x256 (shapeCast S1x1x1x1x256 v shapeCasts_S1x1x1x1x256_S1x1x1x1x256) broadcasts_S1x1x1x1x256_S8x1x1x1x256 (ix5 k 0 0 0 e) = s := by
    rw [shapeCast_self, broadcastTo_apply _ _ (ix5 k 0 0 0 e) (ix5 0 0 0 0 e) (fun b => by fin_cases b <;> rfl), hv]
  subst h
  refine hits_of_eq _ _ t.val k.val (point_lt t) k.isLt ?_
  show iota .tc S8x1x1x1x256 32 [0] iota_S8x1x1x1x256_d0_w32 (ix5 k 0 0 0 e) + BitVec.ofNat 32 (grid0.coords t 0).val * 8#32 = _
  rw [coord_eq]
  congr 1
  exact iota_single_apply _ _ _ _ _ _

/-! The masks of a point. -/

theorem hits2 (c : Dev nD) (t : Fin cfg0.N) (k : Fin 8) (e : Fin 256) :
    Hits t.val (mask2 m c t (ix2 k e)) (steps m c (ix1 e)) k.val := match2 (F := F) _ _ t k e (in20 m c t e)
theorem hits3 (c : Dev nD) (t : Fin cfg0.N) (k : Fin 8) (e : Fin 256) :
    Hits t.val (mask3 m c t (ix3 k 0 e)) (steps m c (ix1 e)) k.val := match3 (F := F) _ _ t k e (in21 m c t e)
theorem hits4 (c : Dev nD) (t : Fin cfg0.N) (k : Fin 8) (e : Fin 256) :
    Hits t.val (mask4 m c t (ix4 k 0 0 e)) (steps m c (ix1 e)) k.val := match4 (F := F) _ _ t k e (in22 m c t e)
theorem hits5 (c : Dev nD) (t : Fin cfg0.N) (k : Fin 8) (e : Fin 256) :
    Hits t.val (mask5 m c t (ix5 k 0 0 0 e)) (steps m c (ix1 e)) k.val := match5 (F := F) _ _ t k e (in23 m c t e)

end Cert.KernelIdeal.Hand
-- ==== Proof.Blocks2.lean ====
/-
  What the kernel finds in its input blocks: the larger per-environment arrays and the single values.
-/
module

public import proofs.«01_k».proof.Proof.Arrays
public import proofs.«01_k».proof.Proof.Slabs
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ)

theorem in9 (c : Dev nD) (t : Fin cfg0.N) (a : Fin 32) (b : Fin 16) (e : Fin 256) : iblk m c 9 t (ix4 0 a b e) = m ((c.tc : Thread nD τ).loc main_arg9) (ix3 e a b) := by
  blk_simp [iblk]
  have h : (win0_9.blk t).view.emb (ix4 0 a b e) = (ix4 0 a b e) := by
    funext x
    apply Fin.ext
    fin_cases x <;> blk_simp <;> first | rfl | exact Nat.zero_add _
  rw [h, V_v19]
  exact back3 _ _ _ a b e

theorem in10 (c : Dev nD) (t : Fin cfg0.N) (a : Fin 32) (b : Fin 4) (e : Fin 256) : iblk m c 10 t (ix4 0 a b e) = m ((c.tc : Thread nD τ).loc main_arg13) (ix3 e a b) := by
  blk_simp [iblk]
  have h : (win0_10.blk t).view.emb (ix4 0 a b e) = (ix4 0 a b e) := by
    funext x
    apply Fin.ext
    fin_cases x <;> blk_simp <;> first | rfl | exact Nat.zero_add _
  rw [h, V_v21]
  exact back3 _ _ _ a b e

theorem in11 (c : Dev nD) (t : Fin cfg0.N) (a : Fin 32) (b : Fin 4) (e : Fin 256) : iblk m c 11 t (ix4 0 a b e) = m ((c.tc : Thread nD τ).loc main_arg14) (ix3 e a b) := by
  blk_simp [iblk]
  have h : (win0_11.blk t).view.emb (ix4 0 a b e) = (ix4 0 a b e) := by
    funext x
    apply Fin.ext
    fin_cases x <;> blk_simp <;> first | rfl | exact Nat.zero_add _
  rw [h, V_v23]
  exact back3 _ _ _ a b e

theorem in12 (c : Dev nD) (t : Fin cfg0.N) (a : Fin 32) (b : Fin 4) (e : Fin 256) : iblk m c 12 t (ix4 0 a b e) = m ((c.tc : Thread nD τ).loc main_arg17) (ix3 e a b) := by
  blk_simp [iblk]
  have h : (win0_12.blk t).view.emb (ix4 0 a b e) = (ix4 0 a b e) := by
    funext x
    apply Fin.ext
    fin_cases x <;> blk_simp <;> first | rfl | exact Nat.zero_add _
  rw [h, V_v25]
  exact back3 _ _ _ a b e

theorem in13 (c : Dev nD) (t : Fin cfg0.N) (a : Fin 32) (b : Fin 4) (d : Fin 8) (e : Fin 256) : iblk m c 13 t (ix5 0 a b d e) = m ((c.tc : Thread nD τ).loc main_arg15) (ix4 e a b d) := by
  blk_simp [iblk]
  have h : (win0_13.blk t).view.emb (ix5 0 a b d e) = (ix5 0 a b d e) := by
    funext x
    apply Fin.ext
    fin_cases x <;> blk_simp <;> first | rfl | exact Nat.zero_add _
  rw [h, V_v27]
  exact back4 _ _ _ a b d e

theorem in14 (c : Dev nD) (t : Fin cfg0.N) (e : Fin 256) : iblk m c 14 t (ix2 0 e) = m ((c.tc : Thread nD τ).loc main_arg6) (ix1 e) := by
  blk_simp [iblk]
  have h : (win0_14.blk t).view.emb (ix2 0 e) = (ix2 0 e) := by
    funext x
    apply Fin.ext
    fin_cases x <;> blk_simp <;> first | rfl | exact Nat.zero_add _
  rw [h, V_v28]
  exact back1 _ _ e

theorem in15 (c : Dev nD) (t : Fin cfg0.N) (e : Fin 256) : iblk m c 15 t (ix2 0 e) = m ((c.tc : Thread nD τ).loc main_arg7) (ix1 e) := by
  blk_simp [iblk]
  have h : (win0_15.blk t).view.emb (ix2 0 e) = (ix2 0 e) := by
    funext x
    apply Fin.ext
    fin_cases x <;> blk_simp <;> first | rfl | exact Nat.zero_add _
  rw [h, V_v29]
  exact back1 _ _ e

theorem in16 (c : Dev nD) (t : Fin cfg0.N) (e : Fin 256) : iblk m c 16 t (ix2 0 e) = m ((c.tc : Thread nD τ).loc main_arg20) (ix1 e) := by
  blk_simp [iblk]
  have h : (win0_16.blk t).view.emb (ix2 0 e) = (ix2 0 e) := by
    funext x
    apply Fin.ext
    fin_cases x <;> blk_simp <;> first | rfl | exact Nat.zero_add _
  rw [h, V_v30]
  exact back1 _ _ e

theorem in17 (c : Dev nD) (t : Fin cfg0.N) (e : Fin 256) : iblk m c 17 t (ix2 0 e) = m ((c.tc : Thread nD τ).loc main_arg21) (ix1 e) := by
  blk_simp [iblk]
  have h : (win0_17.blk t).view.emb (ix2 0 e) = (ix2 0 e) := by
    funext x
    apply Fin.ext
    fin_cases x <;> blk_simp <;> first | rfl | exact Nat.zero_add _
  rw [h, V_v31]
  exact back1 _ _ e

theorem in18 (c : Dev nD) (t : Fin cfg0.N) (e : Fin 256) : iblk m c 18 t (ix2 0 e) = m ((c.tc : Thread nD τ).loc main_arg22) (ix1 e) := by
  blk_simp [iblk]
  have h : (win0_18.blk t).view.emb (ix2 0 e) = (ix2 0 e) := by
    funext x
    apply Fin.ext
    fin_cases x <;> blk_simp <;> first | rfl | exact Nat.zero_add _
  rw [h, V_v32]
  exact back1 _ _ e

theorem in19 (c : Dev nD) (t : Fin cfg0.N) (e : Fin 256) : iblk m c 19 t (ix2 0 e) = m ((c.tc : Thread nD τ).loc main_arg23) (ix1 e) := by
  blk_simp [iblk]
  have h : (win0_19.blk t).view.emb (ix2 0 e) = (ix2 0 e) := by
    funext x
    apply Fin.ext
    fin_cases x <;> blk_simp <;> first | rfl | exact Nat.zero_add _
  rw [h, V_v33]
  exact back1 _ _ e

end Cert.KernelIdeal.Hand
-- ==== Proof.Written3.lean ====
/-
  What the launch leaves in the trajectory arrays of single values.
-/
module

public import proofs.«01_k».proof.Proof.Masks
public import proofs.«01_k».proof.Proof.Blocks2
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

theorem arr_38 (c : Dev nD) :
    (dats m 0 c).arrAt 38 cfg0.N = slab1 (steps m c) 0#32 64 (m ((c.tc : Thread nD τ).loc main_arg6)) := by
  refine (dats m 0 c).arrAt_eq_of_covers 38 _ (by decide +kernel) fun t _ y => ?_
  blk_simp
  rw [at_38]
  unfold k0_pay25 k0_pay24
  have hidx := (by decide +kernel : ∀ t : Fin grid0.N, win0_38.index t = ![(grid0.coords t 0).val, 0]) t
  exact block1 (steps m c) _ _ _ _ (hits2 m c t) (in14 m c t) _ _ _ y _ (row_of_point win0_38 t y 0 rfl rfl (congrFun hidx 0))
    (win0_38.rect_emb_val_of_index_zero t 1 (congrFun hidx 1) y)

theorem arr_39 (c : Dev nD) :
    (dats m 0 c).arrAt 39 cfg0.N = slab1 (steps m c) 0#32 64 (m ((c.tc : Thread nD τ).loc main_arg7)) := by
  refine (dats m 0 c).arrAt_eq_of_covers 39 _ (by decide +kernel) fun t _ y => ?_
  blk_simp
  rw [at_39]
  unfold k0_pay26
  have hidx := (by decide +kernel : ∀ t : Fin grid0.N, win0_39.index t = ![(grid0.coords t 0).val, 0]) t
  exact block1 (steps m c) _ _ _ _ (hits2 m c t) (in15 m c t) _ _ _ y _ (row_of_point win0_39 t y 0 rfl rfl (congrFun hidx 0))
    (win0_39.rect_emb_val_of_index_zero t 1 (congrFun hidx 1) y)

theorem arr_40 (c : Dev nD) :
    (dats m 0 c).arrAt 40 cfg0.N = slab1 (steps m c) (Scalar.ofBits .f32 0x00000000#32 : F .f32) 64 (m ((c.tc : Thread nD τ).loc main_arg20)) := by
  refine (dats m 0 c).arrAt_eq_of_covers 40 _ (by decide +kernel) fun t _ y => ?_
  blk_simp
  rw [at_40]
  unfold k0_pay27
  have hidx := (by decide +kernel : ∀ t : Fin grid0.N, win0_40.index t = ![(grid0.coords t 0).val, 0]) t
  exact block1 (steps m c) _ _ _ _ (hits2 m c t) (in16 m c t) _ _ _ y _ (row_of_point win0_40 t y 0 rfl rfl (congrFun hidx 0))
    (win0_40.rect_emb_val_of_index_zero t 1 (congrFun hidx 1) y)

theorem arr_41 (c : Dev nD) :
    (dats m 0 c).arrAt 41 cfg0.N = slab1 (steps m c) (Scalar.ofBits .f32 0x00000000#32 : F .f32) 64 (m ((c.tc : Thread nD τ).loc main_arg21)) := by
  refine (dats m 0 c).arrAt_eq_of_covers 41 _ (by decide +kernel) fun t _ y => ?_
  blk_simp
  rw [at_41]
  unfold k0_pay28
  have hidx := (by decide +kernel : ∀ t : Fin grid0.N, win0_41.index t = ![(grid0.coords t 0).val, 0]) t
  exact block1 (steps m c) _ _ _ _ (hits2 m c t) (in17 m c t) _ _ _ y _ (row_of_point win0_41 t y 0 rfl rfl (congrFun hidx 0))
    (win0_41.rect_emb_val_of_index_zero t 1 (congrFun hidx 1) y)

theorem arr_42 (c : Dev nD) :
    (dats m 0 c).arrAt 42 cfg0.N = slab1 (steps m c) (Scalar.ofBits .f32 0x00000000#32 : F .f32) 64 (m ((c.tc : Thread nD τ).loc main_arg22)) := by
  refine (dats m 0 c).arrAt_eq_of_covers 42 _ (by decide +kernel) fun t _ y => ?_
  blk_simp
  rw [at_42]
  unfold k0_pay29
  have hidx := (by decide +kernel : ∀ t : Fin grid0.N, win0_42.index t = ![(grid0.coords t 0).val, 0]) t
  exact block1 (steps m c) _ _ _ _ (hits2 m c t) (in18 m c t) _ _ _ y _ (row_of_point win0_42 t y 0 rfl rfl (congrFun hidx 0))
    (win0_42.rect_emb_val_of_index_zero t 1 (congrFun hidx 1) y)

theorem arr_43 (c : Dev nD) :
    (dats m 0 c).arrAt 43 cfg0.N = slab1 (steps m c) 0#32 64 (m ((c.tc : Thread nD τ).loc main_arg23)) := by
  refine (dats m 0 c).arrAt_eq_of_covers 43 _ (by decide +kernel) fun t _ y => ?_
  blk_simp
  rw [at_43]
  unfold k0_pay1
  have hidx := (by decide +kernel : ∀ t : Fin grid0.N, win0_43.index t = ![(grid0.coords t 0).val, 0]) t
  exact block1 (steps m c) _ _ _ _ (hits2 m c t) (in19 m c t) _ _ _ y _ (row_of_point win0_43 t y 0 rfl rfl (congrFun hidx 0))
    (win0_43.rect_emb_val_of_index_zero t 1 (congrFun hidx 1) y)

end Cert.KernelIdeal.Hand
-- ==== Proof.Written2.lean ====
/-
  What the launch leaves in the trajectory arrays of two and three axes.
-/
module

public import proofs.«01_k».proof.Proof.Masks
public import proofs.«01_k».proof.Proof.Blocks2
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

theorem arr_33 (c : Dev nD) :
    (dats m 0 c).arrAt 33 cfg0.N = slab3 (steps m c) (Scalar.ofBits .f32 0x00000000#32 : F .f32) 64 (m ((c.tc : Thread nD τ).loc main_arg9)) := by
  refine (dats m 0 c).arrAt_eq_of_covers 33 _ (by decide +kernel) fun t _ y => ?_
  blk_simp
  rw [at_33]
  unfold k0_pay19
  have hidx := (by decide +kernel : ∀ t : Fin grid0.N, win0_33.index t = ![(grid0.coords t 0).val, 0, 0, 0]) t
  exact block3 (steps m c) _ _ _ _ (hits4 m c t) (in9 m c t) _ _ _ _ _ y _ (row_of_point win0_33 t y 0 rfl rfl (congrFun hidx 0))
    (win0_33.rect_emb_val_of_index_zero t 1 (congrFun hidx 1) y)
    (win0_33.rect_emb_val_of_index_zero t 2 (congrFun hidx 2) y)
    (win0_33.rect_emb_val_of_index_zero t 3 (congrFun hidx 3) y)

theorem arr_34 (c : Dev nD) :
    (dats m 0 c).arrAt 34 cfg0.N = slab3 (steps m c) (Scalar.ofBits .f32 0x00000000#32 : F .f32) 64 (m ((c.tc : Thread nD τ).loc main_arg13)) := by
  refine (dats m 0 c).arrAt_eq_of_covers 34 _ (by decide +kernel) fun t _ y => ?_
  blk_simp
  rw [at_34]
  unfold k0_pay20
  have hidx := (by decide +kernel : ∀ t : Fin grid0.N, win0_34.index t = ![(grid0.coords t 0).val, 0, 0, 0]) t
  exact block3 (steps m c) _ _ _ _ (hits4 m c t) (in10 m c t) _ _ _ _ _ y _ (row_of_point win0_34 t y 0 rfl rfl (congrFun hidx 0))
    (win0_34.rect_emb_val_of_index_zero t 1 (congrFun hidx 1) y)
    (win0_34.rect_emb_val_of_index_zero t 2 (congrFun hidx 2) y)
    (win0_34.rect_emb_val_of_index_zero t 3 (congrFun hidx 3) y)

theorem arr_35 (c : Dev nD) :
    (dats m 0 c).arrAt 35 cfg0.N = slab3 (steps m c) 0#32 64 (m ((c.tc : Thread nD τ).loc main_arg14)) := by
  refine (dats m 0 c).arrAt_eq_of_covers 35 _ (by decide +kernel) fun t _ y => ?_
  blk_simp
  rw [at_35]
  unfold k0_pay21
  have hidx := (by decide +kernel : ∀ t : Fin grid0.N, win0_35.index t = ![(grid0.coords t 0).val, 0, 0, 0]) t
  exact block3 (steps m c) _ _ _ _ (hits4 m c t) (in11 m c t) _ _ _ _ _ y _ (row_of_point win0_35 t y 0 rfl rfl (congrFun hidx 0))
    (win0_35.rect_emb_val_of_index_zero t 1 (congrFun hidx 1) y)
    (win0_35.rect_emb_val_of_index_zero t 2 (congrFun hidx 2) y)
    (win0_35.rect_emb_val_of_index_zero t 3 (congrFun hidx 3) y)

theorem arr_36 (c : Dev nD) :
    (dats m 0 c).arrAt 36 cfg0.N = slab3 (steps m c) 0#32 64 (m ((c.tc : Thread nD τ).loc main_arg17)) := by
  refine (dats m 0 c).arrAt_eq_of_covers 36 _ (by decide +kernel) fun t _ y => ?_
  blk_simp
  rw [at_36]
  unfold k0_pay22
  have hidx := (by decide +kernel : ∀ t : Fin grid0.N, win0_36.index t = ![(grid0.coords t 0).val, 0, 0, 0]) t
  exact block3 (steps m c) _ _ _ _ (hits4 m c t) (in12 m c t) _ _ _ _ _ y _ (row_of_point win0_36 t y 0 rfl rfl (congrFun hidx 0))
    (win0_36.rect_emb_val_of_index_zero t 1 (congrFun hidx 1) y)
    (win0_36.rect_emb_val_of_index_zero t 2 (congrFun hidx 2) y)
    (win0_36.rect_emb_val_of_index_zero t 3 (congrFun hidx 3) y)

theorem arr_37 (c : Dev nD) :
    (dats m 0 c).arrAt 37 cfg0.N = slab4 (steps m c) (Scalar.ofBits .f32 0x00000000#32 : F .f32) 64 (m ((c.tc : Thread nD τ).loc main_arg15)) := by
  refine (dats m 0 c).arrAt_eq_of_covers 37 _ (by decide +kernel) fun t _ y => ?_
  blk_simp
  rw [at_37]
  unfold k0_pay23
  have hidx := (by decide +kernel : ∀ t : Fin grid0.N, win0_37.index t = ![(grid0.coords t 0).val, 0, 0, 0, 0]) t
  exact block4 (steps m c) _ _ _ _ (hits5 m c t) (in13 m c t) _ _ _ _ _ y _ (row_of_point win0_37 t y 0 rfl rfl (congrFun hidx 0))
    (win0_37.rect_emb_val_of_index_zero t 1 (congrFun hidx 1) y)
    (win0_37.rect_emb_val_of_index_zero t 2 (congrFun hidx 2) y)
    (win0_37.rect_emb_val_of_index_zero t 3 (congrFun hidx 3) y)
    (win0_37.rect_emb_val_of_index_zero t 4 (congrFun hidx 4) y)

end Cert.KernelIdeal.Hand
-- ==== Proof.Counter.lean ====
/-
  What the launch leaves in the counters: every environment's step, one further.
-/
module

public import proofs.«01_k».proof.Proof.Masks
public import proofs.«01_k».proof.Proof.Blocks2
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- The counters the launch leaves: the steps, one further. -/
def counted (steps : S256.Idx → BitVec 32) : S1x256.Idx → BitVec 32 := fun j => IntOp.addi (steps (ix1 (j 1))) 1#32

/-- The counters without the unit axis. -/
theorem counted_front (s : S256.Idx → BitVec 32) : shapeCast S256 (counted s) shapeCasts_S1x256_S256 = Own.next s := by
  funext j
  obtain ⟨e, rfl⟩ : ∃ e, j = ix1 e := ⟨_, eq_ix1 j⟩
  exact shapeCast_dropUnit_apply ![256] (counted s) shapeCasts_S1x256_S256 (ix1 e)

theorem counted_apply (v : IVec S1x256 32) (s : S256.Idx → BitVec 32) (y j : S1x256.Idx) (hj : j 1 = y 1) (hv : v y = s (ix1 (y 1))) :
    k0_pay2 (k0_pay3 (F := F) v) y = counted s j := by
  unfold k0_pay2 k0_pay3 counted
  rw [shapeCast_self, hj, ← hv]
  rfl

theorem arr_44 (c : Dev nD) : (dats m 0 c).arrAt 44 cfg0.N = counted (steps m c) := by
  refine (dats m 0 c).arrAt_eq_of_covers 44 _ (by decide +kernel) fun t _ y => ?_
  blk_simp
  rw [at_44]
  have hidx := (by decide +kernel : ∀ t : Fin grid0.N, win0_44.index t = ![0, 0]) t
  have h1 : (win0_44.blk t).view.emb y 1 = y 1 := Fin.ext (by
    blk_simp
    rw [hidx]
    exact row_of_zero _ _)
  have hy : iblk m c 20 t y = steps m c (ix1 (y 1)) := by
    have e0 : y = ix2 0 (y 1) := by
      funext b
      fin_cases b
      · exact Subsingleton.elim (α := Fin 1) _ _
      · rfl
    exact (congrArg (iblk m c 20 t) e0).trans (in20 m c t (y 1))
  exact counted_apply (F := F) _ _ _ _ h1 hy

end Cert.KernelIdeal.Hand
-- ==== Proof.HostMask.lean ====
/-
  The two results the host computes itself, as the kernel's text does it: a one-bit row, kept where the step is the column and
  cleared elsewhere.
-/
module

public import proofs.«01_k».proof.Proof.Gen.KernelIdeal
public import proofs.«01_k».proof.Proof.Slabs

@[expose] public section

set_option maxRecDepth 16384

noncomputable section

namespace Cert.KernelIdeal.Hand

open Cert.KernelIdeal Cert.KernelIdeal.Gen Cert.Own
open Idealize.ShloMosaic Idealize.ShloMosaic.ValueIdx

/-- A column is the step exactly when the words are equal. -/
theorem column_eq (s : BitVec 32) (n : ℕ) (hn : n < 64) : s = BitVec.ofNat 32 n ↔ s.toInt = (n : ℤ) := by
  have h : (BitVec.ofNat 32 n).toInt = (n : ℤ) := by
    rw [BitVec.toInt_eq_toNat_of_lt] <;> simp only [BitVec.toNat_ofNat] <;> omega
  rw [← BitVec.toInt_inj, h]

/-- A bit and the test of a step. -/
theorem and_column (s : BitVec 32) (n : ℕ) (hn : n < 64) (b : BitVec 1) :
    IntOp.andi (BitVec.ofBool (s == BitVec.ofNat 32 n)) b = if s.toInt = (n : ℤ) then b else 0#1 := by
  by_cases h : s.toInt = (n : ℤ)
  · rw [if_pos h, beq_iff_eq.2 ((column_eq s n hn).2 h)]
    revert b; decide
  · rw [if_neg h, beq_eq_false_iff_ne.2 (fun e => h ((column_eq s n hn).1 e))]
    revert b; decide

/-- The host's masked rows. -/
theorem masked (s : IVec S256 32) (x : IVec S256x32x4 1) :
    andi
      (broadcastInDim S256x64x32x4 ![0, 1, 2, 3] bcast_S256x64x1x1_S256x64x32x4_0_1_2_3
        (broadcastInDim S256x64x1x1 ![0, 1] bcast_S256x64_S256x64x1x1_0_1
          (cmpi CmpIPredicate.eq
            (broadcastInDim S256x64 ![0, 1] bcast_S256x1_S256x64_0_1 (broadcastInDim S256x1 ![0] bcast_S256_S256x1_0 s))
            (broadcastInDim S256x64 ![0, 1] bcast_S1x64_S256x64_0_1 (broadcastInDim S1x64 ![1] bcast_S64_S1x64_1 (iotaInDim S64 32 0))))))
      (broadcastInDim S256x64x32x4 ![0, 1, 2, 3] bcast_S256x1x32x4_S256x64x32x4_0_1_2_3
        (broadcastInDim S256x1x32x4 ![0, 2, 3] bcast_S256x32x4_S256x1x32x4_0_2_3 x)) = rows3 s 0#1 64 x := by
  funext i
  obtain ⟨e, t, a, b, rfl⟩ : ∃ e t a b, i = ix4 e t a b := ⟨_, _, _, _, eq_ix4 i⟩
  unfold andi
  rw [broadcastInDim_apply _ _ _ (ix4 e t a b) (ix4 e t 0 0) (fun k => by fin_cases k <;> rfl),
    broadcastInDim_apply _ _ _ (ix4 e t 0 0) (ix2 e t) (fun k => by fin_cases k <;> rfl),
    broadcastInDim_apply _ _ _ (ix4 e t a b) (ix4 e 0 a b) (fun k => by fin_cases k <;> rfl),
    broadcastInDim_apply _ _ x (ix4 e 0 a b) (ix3 e a b) (fun k => by fin_cases k <;> rfl)]
  unfold cmpi
  rw [broadcastInDim_apply _ _ _ (ix2 e t) (ix2 e 0) (fun k => by fin_cases k <;> rfl),
    broadcastInDim_apply _ _ s (ix2 e 0) (ix1 e) (fun k => by fin_cases k; rfl),
    broadcastInDim_apply _ _ _ (ix2 e t) (ix2 0 t) (fun k => by fin_cases k <;> rfl),
    broadcastInDim_apply _ _ (iotaInDim S64 32 0) (ix2 0 t) (ix1 t) (fun k => by fin_cases k; rfl)]
  exact and_column (s (ix1 e)) t.val t.isLt (x (ix3 e a b))

end Cert.KernelIdeal.Hand
-- ==== Proof.Blocks1.lean ====
/-
  What the kernel finds in its input blocks: the per-environment rows.
-/
module

public import proofs.«01_k».proof.Proof.Arrays
public import proofs.«01_k».proof.Proof.Slabs
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.ShloMosaic.StableHlo
open Idealize.SL Idealize.SL.Sem

variable {F : FTy → Type} [FloatOps F]
variable (m : (ℓ : Loc nD τ sig) → Buf (Elt F) ℓ)

theorem in0 (c : Dev nD) (t : Fin cfg0.N) (a : Fin 64) (e : Fin 256) : iblk m c 0 t (ix3 0 a e) = m ((c.tc : Thread nD τ).loc main_arg2) (ix2 e a) := by
  blk_simp [iblk]
  have h : (win0_0.blk t).view.emb (ix3 0 a e) = (ix3 0 a e) := by
    funext x
    apply Fin.ext
    fin_cases x <;> blk_simp <;> first | rfl | exact Nat.zero_add _
  rw [h, V_v1]
  exact back2 _ _ _ a e

theorem in1 (c : Dev nD) (t : Fin cfg0.N) (a : Fin 64) (e : Fin 256) : iblk m c 1 t (ix3 0 a e) = m ((c.tc : Thread nD τ).loc main_arg3) (ix2 e a) := by
  blk_simp [iblk]
  have h : (win0_1.blk t).view.emb (ix3 0 a e) = (ix3 0 a e) := by
    funext x
    apply Fin.ext
    fin_cases x <;> blk_simp <;> first | rfl | exact Nat.zero_add _
  rw [h, V_v3]
  exact back2 _ _ _ a e

theorem in2 (c : Dev nD) (t : Fin cfg0.N) (a : Fin 64) (e : Fin 256) : iblk m c 2 t (ix3 0 a e) = m ((c.tc : Thread nD τ).loc main_arg4) (ix2 e a) := by
  blk_simp [iblk]
  have h : (win0_2.blk t).view.emb (ix3 0 a e) = (ix3 0 a e) := by
    funext x
    apply Fin.ext
    fin_cases x <;> blk_simp <;> first | rfl | exact Nat.zero_add _
  rw [h, V_v5]
  exact back2 _ _ _ a e

theorem in3 (c : Dev nD) (t : Fin cfg0.N) (a : Fin 64) (e : Fin 256) : iblk m c 3 t (ix3 0 a e) = m ((c.tc : Thread nD τ).loc main_arg5) (ix2 e a) := by
  blk_simp [iblk]
  have h : (win0_3.blk t).view.emb (ix3 0 a e) = (ix3 0 a e) := by
    funext x
    apply Fin.ext
    fin_cases x <;> blk_simp <;> first | rfl | exact Nat.zero_add _
  rw [h, V_v7]
  exact back2 _ _ _ a e

theorem in4 (c : Dev nD) (t : Fin cfg0.N) (a : Fin 32) (e : Fin 256) : iblk m c 4 t (ix3 0 a e) = m ((c.tc : Thread nD τ).loc main_arg8) (ix2 e a) := by
  blk_simp [iblk]
  have h : (win0_4.blk t).view.emb (ix3 0 a e) = (ix3 0 a e) := by
    funext x
    apply Fin.ext
    fin_cases x <;> blk_simp <;> first | rfl | exact Nat.zero_add _
  rw [h, V_v9]
  exact back2 _ _ _ a e

theorem in5 (c : Dev nD) (t : Fin cfg0.N) (a : Fin 32) (e : Fin 256) : iblk m c 5 t (ix3 0 a e) = m ((c.tc : Thread nD τ).loc main_arg10) (ix2 e a) := by
  blk_simp [iblk]
  have h : (win0_5.blk t).view.emb (ix3 0 a e) = (ix3 0 a e) := by
    funext x
    apply Fin.ext
    fin_cases x <;> blk_simp <;> first | rfl | exact Nat.zero_add _
  rw [h, V_v11]
  exact back2 _ _ _ a e

theorem in6 (c : Dev nD) (t : Fin cfg0.N) (a : Fin 32) (e : Fin 256) : iblk m c 6 t (ix3 0 a e) = m ((c.tc : Thread nD τ).loc main_arg11) (ix2 e a) := by
  blk_simp [iblk]
  have h : (win0_6.blk t).view.emb (ix3 0 a e) = (ix3 0 a e) := by
    funext x
    apply Fin.ext
    fin_cases x <;> blk_simp <;> first | rfl | exact Nat.zero_add _
  rw [h, V_v13]
  exact back2 _ _ _ a e

theorem in7 (c : Dev nD) (t : Fin cfg0.N) (a : Fin 32) (e : Fin 256) : iblk m c 7 t (ix3 0 a e) = m ((c.tc : Thread nD τ).loc main_arg12) (ix2 e a) := by
  blk_simp [iblk]
  have h : (win0_7.blk t).view.emb (ix3 0 a e) = (ix3 0 a e) := by
    funext x
    apply Fin.ext
    fin_cases x <;> blk_simp <;> first | rfl | exact Nat.zero_add _
  rw [h, V_v15]
  exact back2 _ _ _ a e

theorem in8 (c : Dev nD) (t : Fin cfg0.N) (a : Fin 32) (e : Fin 256) : iblk m c 8 t (ix3 0 a e) = m ((c.tc : Thread nD τ).loc main_arg16) (ix2 e a) := by
  blk_simp [iblk]
  have h : (win0_8.blk t).view.emb (ix3 0 a e) = (ix3 0 a e) := by
    funext x
    apply Fin.ext
    fin_cases x <;> blk_simp <;> first | rfl | exact Nat.zero_add _
  rw [h, V_v17]
  exact back2 _ _ _ a e

end Cert.KernelIdeal.Hand
-- ==== Proof.Written1.lean ====
/-
  What the launch leaves in the trajectory arrays of rows: each environment's row at its own step, zero elsewhere.
-/
module

public import proofs.«01_k».proof.Proof.Masks
public import proofs.«01_k».proof.Proof.Blocks1
public import Idealize.ShloMosaic.Lib.Pipeline.ValueKit.Geometry

@[expose] public section

set_option maxRecDepth 16384

noncomputable section

namespace Cert.KernelIdeal.Hand

open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

theorem arr_24 (c : Dev nD) :
    (dats m 0 c).arrAt 24 cfg0.N = slab2 (steps m c) 0#32 64 (m ((c.tc : Thread nD τ).loc main_arg2)) := by
  refine (dats m 0 c).arrAt_eq_of_covers 24 _ (by decide +kernel) fun t _ y => ?_
  blk_simp
  rw [at_24]
  unfold k0_pay8
  have hidx := (by decide +kernel : ∀ t : Fin grid0.N, win0_24.index t = ![(grid0.coords t 0).val, 0, 0]) t
  exact block2 (steps m c) _ _ _ _ (hits3 m c t) (in0 m c t) _ _ _ _ _ y _ (row_of_point win0_24 t y 0 rfl rfl (congrFun hidx 0))
    (win0_24.rect_emb_val_of_index_zero t 1 (congrFun hidx 1) y)
    (win0_24.rect_emb_val_of_index_zero t 2 (congrFun hidx 2) y)

theorem arr_25 (c : Dev nD) :
    (dats m 0 c).arrAt 25 cfg0.N = slab2 (steps m c) (Scalar.ofBits .f32 0x00000000#32 : F .f32) 64 (m ((c.tc : Thread nD τ).loc main_arg3)) := by
  refine (dats m 0 c).arrAt_eq_of_covers 25 _ (by decide +kernel) fun t _ y => ?_
  blk_simp
  rw [at_25]
  unfold k0_pay9
  have hidx := (by decide +kernel : ∀ t : Fin grid0.N, win0_25.index t = ![(grid0.coords t 0).val, 0, 0]) t
  exact block2 (steps m c) _ _ _ _ (hits3 m c t) (in1 m c t) _ _ _ _ _ y _ (row_of_point win0_25 t y 0 rfl rfl (congrFun hidx 0))
    (win0_25.rect_emb_val_of_index_zero t 1 (congrFun hidx 1) y)
    (win0_25.rect_emb_val_of_index_zero t 2 (congrFun hidx 2) y)

theorem arr_26 (c : Dev nD) :
    (dats m 0 c).arrAt 26 cfg0.N = slab2 (steps m c) (Scalar.ofBits .f32 0x00000000#32 : F .f32) 64 (m ((c.tc : Thread nD τ).loc main_arg4)) := by
  refine (dats m 0 c).arrAt_eq_of_covers 26 _ (by decide +kernel) fun t _ y => ?_
  blk_simp
  rw [at_26]
  unfold k0_pay10
  have hidx := (by decide +kernel : ∀ t : Fin grid0.N, win0_26.index t = ![(grid0.coords t 0).val, 0, 0]) t
  exact block2 (steps m c) _ _ _ _ (hits3 m c t) (in2 m c t) _ _ _ _ _ y _ (row_of_point win0_26 t y 0 rfl rfl (congrFun hidx 0))
    (win0_26.rect_emb_val_of_index_zero t 1 (congrFun hidx 1) y)
    (win0_26.rect_emb_val_of_index_zero t 2 (congrFun hidx 2) y)

theorem arr_27 (c : Dev nD) :
    (dats m 0 c).arrAt 27 cfg0.N = slab2 (steps m c) (Scalar.ofBits .f32 0x00000000#32 : F .f32) 64 (m ((c.tc : Thread nD τ).loc main_arg5)) := by
  refine (dats m 0 c).arrAt_eq_of_covers 27 _ (by decide +kernel) fun t _ y => ?_
  blk_simp
  rw [at_27]
  unfold k0_pay11
  have hidx := (by decide +kernel : ∀ t : Fin grid0.N, win0_27.index t = ![(grid0.coords t 0).val, 0, 0]) t
  exact block2 (steps m c) _ _ _ _ (hits3 m c t) (in3 m c t) _ _ _ _ _ y _ (row_of_point win0_27 t y 0 rfl rfl (congrFun hidx 0))
    (win0_27.rect_emb_val_of_index_zero t 1 (congrFun hidx 1) y)
    (win0_27.rect_emb_val_of_index_zero t 2 (congrFun hidx 2) y)

theorem arr_28 (c : Dev nD) :
    (dats m 0 c).arrAt 28 cfg0.N = slab2 (steps m c) 0#32 64 (m ((c.tc : Thread nD τ).loc main_arg8)) := by
  refine (dats m 0 c).arrAt_eq_of_covers 28 _ (by decide +kernel) fun t _ y => ?_
  blk_simp
  rw [at_28]
  unfold k0_pay14 k0_pay12 k0_pay13
  have hidx := (by decide +kernel : ∀ t : Fin grid0.N, win0_28.index t = ![(grid0.coords t 0).val, 0, 0]) t
  exact block2 (steps m c) _ _ _ _ (hits3 m c t) (in4 m c t) _ _ _ _ _ y _ (row_of_point win0_28 t y 0 rfl rfl (congrFun hidx 0))
    (win0_28.rect_emb_val_of_index_zero t 1 (congrFun hidx 1) y)
    (win0_28.rect_emb_val_of_index_zero t 2 (congrFun hidx 2) y)

theorem arr_29 (c : Dev nD) :
    (dats m 0 c).arrAt 29 cfg0.N = slab2 (steps m c) (Scalar.ofBits .f32 0x00000000#32 : F .f32) 64 (m ((c.tc : Thread nD τ).loc main_arg10)) := by
  refine (dats m 0 c).arrAt_eq_of_covers 29 _ (by decide +kernel) fun t _ y => ?_
  blk_simp
  rw [at_29]
  unfold k0_pay15
  have hidx := (by decide +kernel : ∀ t : Fin grid0.N, win0_29.index t = ![(grid0.coords t 0).val, 0, 0]) t
  exact block2 (steps m c) _ _ _ _ (hits3 m c t) (in5 m c t) _ _ _ _ _ y _ (row_of_point win0_29 t y 0 rfl rfl (congrFun hidx 0))
    (win0_29.rect_emb_val_of_index_zero t 1 (congrFun hidx 1) y)
    (win0_29.rect_emb_val_of_index_zero t 2 (congrFun hidx 2) y)

theorem arr_30 (c : Dev nD) :
    (dats m 0 c).arrAt 30 cfg0.N = slab2 (steps m c) 0#32 64 (m ((c.tc : Thread nD τ).loc main_arg11)) := by
  refine (dats m 0 c).arrAt_eq_of_covers 30 _ (by decide +kernel) fun t _ y => ?_
  blk_simp
  rw [at_30]
  unfold k0_pay16
  have hidx := (by decide +kernel : ∀ t : Fin grid0.N, win0_30.index t = ![(grid0.coords t 0).val, 0, 0]) t
  exact block2 (steps m c) _ _ _ _ (hits3 m c t) (in6 m c t) _ _ _ _ _ y _ (row_of_point win0_30 t y 0 rfl rfl (congrFun hidx 0))
    (win0_30.rect_emb_val_of_index_zero t 1 (congrFun hidx 1) y)
    (win0_30.rect_emb_val_of_index_zero t 2 (congrFun hidx 2) y)

theorem arr_31 (c : Dev nD) :
    (dats m 0 c).arrAt 31 cfg0.N = slab2 (steps m c) 0#32 64 (m ((c.tc : Thread nD τ).loc main_arg12)) := by
  refine (dats m 0 c).arrAt_eq_of_covers 31 _ (by decide +kernel) fun t _ y => ?_
  blk_simp
  rw [at_31]
  unfold k0_pay17
  have hidx := (by decide +kernel : ∀ t : Fin grid0.N, win0_31.index t = ![(grid0.coords t 0).val, 0, 0]) t
  exact block2 (steps m c) _ _ _ _ (hits3 m c t) (in7 m c t) _ _ _ _ _ y _ (row_of_point win0_31 t y 0 rfl rfl (congrFun hidx 0))
    (win0_31.rect_emb_val_of_index_zero t 1 (congrFun hidx 1) y)
    (win0_31.rect_emb_val_of_index_zero t 2 (congrFun hidx 2) y)

theorem arr_32 (c : Dev nD) :
    (dats m 0 c).arrAt 32 cfg0.N = slab2 (steps m c) (Scalar.ofBits .f32 0x00000000#32 : F .f32) 64 (m ((c.tc : Thread nD τ).loc main_arg16)) := by
  refine (dats m 0 c).arrAt_eq_of_covers 32 _ (by decide +kernel) fun t _ y => ?_
  blk_simp
  rw [at_32]
  unfold k0_pay18
  have hidx := (by decide +kernel : ∀ t : Fin grid0.N, win0_32.index t = ![(grid0.coords t 0).val, 0, 0]) t
  exact block2 (steps m c) _ _ _ _ (hits3 m c t) (in8 m c t) _ _ _ _ _ y _ (row_of_point win0_32 t y 0 rfl rfl (congrFun hidx 0))
    (win0_32.rect_emb_val_of_index_zero t 1 (congrFun hidx 1) y)
    (win0_32.rect_emb_val_of_index_zero t 2 (congrFun hidx 2) y)

end Cert.KernelIdeal.Hand
-- ==== Proof.Outputs.lean ====
/-
  What the kernel's results are: the launch's arrays with the environment moved to the front, the two masks it leaves to the
  host, and the counters.
-/
module

public import proofs.«01_k».proof.Proof.Written3
public import proofs.«01_k».proof.Proof.Written2
public import proofs.«01_k».proof.Proof.Counter
public import proofs.«01_k».proof.Proof.Run
public import proofs.«01_k».proof.Proof.HostMask
public import proofs.«01_k».proof.Proof.Written1
public import Idealize.ShloMosaic.Lib.StableHlo.RunRead

@[expose] public section

set_option maxRecDepth 16384

noncomputable section

namespace Cert.KernelIdeal.Hand

open Idealize.ShloMosaic.StableHlo
open Cert.Own
open Cert.KernelIdeal Cert.KernelIdeal.Gen Cert.Slabs
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ)

/-- What the host computes from the launch's arrays. -/
abbrev last (c : Dev nD) (b : Ref sig .tc) := Pipeline.afterTail₀ cfgs (dats m) 0 (V0 m) [hostOps1] c b

theorem arrays_inj : Function.Injective (Pipeline.arrRef spec0) :=
  fun a b => (by decide : ∀ a b, Pipeline.arrRef spec0 a = Pipeline.arrRef spec0 b → a = b) a b

/-- A launch's array, read after the launch. -/
theorem read_array (c : Dev nD) (w : Fin 45) :
    Pipeline.withArrays (cfgs 0).spec c (V0 m c) (fun w => (dats m 0 c).arrAt w (cfgs 0).N) (Proc.devRef .tc (Pipeline.arrRef spec0 w))
      = (dats m 0 c).arrAt w cfg0.N := Pipeline.withArrays_arr spec0 arrays_inj c _ _ w

theorem last_2 (c : Dev nD) : last m c main_v54 = rows2 (steps m c) 0#32 64 (m ((c.tc : Thread nD τ).loc main_arg2)) := by
  unfold last Pipeline.afterTail₀
  after_reads_simp
  exact (congrArg (transpose _ _ · _) ((read_array m c 24).trans (arr_24 m c))).trans (front2 _ _ _ _)
theorem last_3 (c : Dev nD) : last m c main_v55 = rows2 (steps m c) (Scalar.ofBits .f32 0x00000000#32 : F .f32) 64 (m ((c.tc : Thread nD τ).loc main_arg3)) := by
  unfold last Pipeline.afterTail₀
  after_reads_simp
  exact (congrArg (transpose _ _ · _) ((read_array m c 25).trans (arr_25 m c))).trans (front2 _ _ _ _)
theorem last_4 (c : Dev nD) : last m c main_v56 = rows2 (steps m c) (Scalar.ofBits .f32 0x00000000#32 : F .f32) 64 (m ((c.tc : Thread nD τ).loc main_arg4)) := by
  unfold last Pipeline.afterTail₀
  after_reads_simp
  exact (congrArg (transpose _ _ · _) ((read_array m c 26).trans (arr_26 m c))).trans (front2 _ _ _ _)
theorem last_5 (c : Dev nD) : last m c main_v57 = rows2 (steps m c) (Scalar.ofBits .f32 0x00000000#32 : F .f32) 64 (m ((c.tc : Thread nD τ).loc main_arg5)) := by
  unfold last Pipeline.afterTail₀
  after_reads_simp
  exact (congrArg (transpose _ _ · _) ((read_array m c 27).trans (arr_27 m c))).trans (front2 _ _ _ _)
theorem last_6 (c : Dev nD) : last m c main_v58 = rows1 (steps m c) 0#32 64 (m ((c.tc : Thread nD τ).loc main_arg6)) := by
  unfold last Pipeline.afterTail₀
  after_reads_simp
  exact (congrArg (transpose _ _ · _) ((read_array m c 38).trans (arr_38 m c))).trans (front1 _ _ _ _)
theorem last_7 (c : Dev nD) : last m c main_v59 = rows1 (steps m c) 0#32 64 (m ((c.tc : Thread nD τ).loc main_arg7)) := by
  unfold last Pipeline.afterTail₀
  after_reads_simp
  exact (congrArg (transpose _ _ · _) ((read_array m c 39).trans (arr_39 m c))).trans (front1 _ _ _ _)
theorem last_8 (c : Dev nD) : last m c main_v60 = rows2 (steps m c) 0#32 64 (m ((c.tc : Thread nD τ).loc main_arg8)) := by
  unfold last Pipeline.afterTail₀
  after_reads_simp
  exact (congrArg (transpose _ _ · _) ((read_array m c 28).trans (arr_28 m c))).trans (front2 _ _ _ _)
theorem last_9 (c : Dev nD) : last m c main_v61 = rows3 (steps m c) (Scalar.ofBits .f32 0x00000000#32 : F .f32) 64 (m ((c.tc : Thread nD τ).loc main_arg9)) := by
  unfold last Pipeline.afterTail₀
  after_reads_simp
  exact (congrArg (transpose _ _ · _) ((read_array m c 33).trans (arr_33 m c))).trans (front3 _ _ _ _)
theorem last_10 (c : Dev nD) : last m c main_v62 = rows2 (steps m c) (Scalar.ofBits .f32 0x00000000#32 : F .f32) 64 (m ((c.tc : Thread nD τ).loc main_arg10)) := by
  unfold last Pipeline.afterTail₀
  after_reads_simp
  exact (congrArg (transpose _ _ · _) ((read_array m c 29).trans (arr_29 m c))).trans (front2 _ _ _ _)
theorem last_11 (c : Dev nD) : last m c main_v63 = rows2 (steps m c) 0#32 64 (m ((c.tc : Thread nD τ).loc main_arg11)) := by
  unfold last Pipeline.afterTail₀
  after_reads_simp
  exact (congrArg (transpose _ _ · _) ((read_array m c 30).trans (arr_30 m c))).trans (front2 _ _ _ _)
theorem last_12 (c : Dev nD) : last m c main_v64 = rows2 (steps m c) 0#32 64 (m ((c.tc : Thread nD τ).loc main_arg12)) := by
  unfold last Pipeline.afterTail₀
  after_reads_simp
  exact (congrArg (transpose _ _ · _) ((read_array m c 31).trans (arr_31 m c))).trans (front2 _ _ _ _)
theorem last_13 (c : Dev nD) : last m c main_v65 = rows3 (steps m c) (Scalar.ofBits .f32 0x00000000#32 : F .f32) 64 (m ((c.tc : Thread nD τ).loc main_arg13)) := by
  unfold last Pipeline.afterTail₀
  after_reads_simp
  exact (congrArg (transpose _ _ · _) ((read_array m c 34).trans (arr_34 m c))).trans (front3 _ _ _ _)
theorem last_14 (c : Dev nD) : last m c main_v66 = rows3 (steps m c) 0#32 64 (m ((c.tc : Thread nD τ).loc main_arg14)) := by
  unfold last Pipeline.afterTail₀
  after_reads_simp
  exact (congrArg (transpose _ _ · _) ((read_array m c 35).trans (arr_35 m c))).trans (front3 _ _ _ _)
theorem last_15 (c : Dev nD) : last m c main_v67 = rows4 (steps m c) (Scalar.ofBits .f32 0x00000000#32 : F .f32) 64 (m ((c.tc : Thread nD τ).loc main_arg15)) := by
  unfold last Pipeline.afterTail₀
  after_reads_simp
  exact (congrArg (transpose _ _ · _) ((read_array m c 37).trans (arr_37 m c))).trans (front4 _ _ _ _)
theorem last_16 (c : Dev nD) : last m c main_v68 = rows2 (steps m c) (Scalar.ofBits .f32 0x00000000#32 : F .f32) 64 (m ((c.tc : Thread nD τ).loc main_arg16)) := by
  unfold last Pipeline.afterTail₀
  after_reads_simp
  exact (congrArg (transpose _ _ · _) ((read_array m c 32).trans (arr_32 m c))).trans (front2 _ _ _ _)
theorem last_17 (c : Dev nD) : last m c main_v69 = rows3 (steps m c) 0#32 64 (m ((c.tc : Thread nD τ).loc main_arg17)) := by
  unfold last Pipeline.afterTail₀
  after_reads_simp
  exact (congrArg (transpose _ _ · _) ((read_array m c 36).trans (arr_36 m c))).trans (front3 _ _ _ _)
theorem last_20 (c : Dev nD) : last m c main_v70 = rows1 (steps m c) (Scalar.ofBits .f32 0x00000000#32 : F .f32) 64 (m ((c.tc : Thread nD τ).loc main_arg20)) := by
  unfold last Pipeline.afterTail₀
  after_reads_simp
  exact (congrArg (transpose _ _ · _) ((read_array m c 40).trans (arr_40 m c))).trans (front1 _ _ _ _)
theorem last_21 (c : Dev nD) : last m c main_v71 = rows1 (steps m c) (Scalar.ofBits .f32 0x00000000#32 : F .f32) 64 (m ((c.tc : Thread nD τ).loc main_arg21)) := by
  unfold last Pipeline.afterTail₀
  after_reads_simp
  exact (congrArg (transpose _ _ · _) ((read_array m c 41).trans (arr_41 m c))).trans (front1 _ _ _ _)
theorem last_22 (c : Dev nD) : last m c main_v72 = rows1 (steps m c) (Scalar.ofBits .f32 0x00000000#32 : F .f32) 64 (m ((c.tc : Thread nD τ).loc main_arg22)) := by
  unfold last Pipeline.afterTail₀
  after_reads_simp
  exact (congrArg (transpose _ _ · _) ((read_array m c 42).trans (arr_42 m c))).trans (front1 _ _ _ _)
theorem last_23 (c : Dev nD) : last m c main_v73 = rows1 (steps m c) 0#32 64 (m ((c.tc : Thread nD τ).loc main_arg23)) := by
  unfold last Pipeline.afterTail₀
  after_reads_simp
  exact (congrArg (transpose _ _ · _) ((read_array m c 43).trans (arr_43 m c))).trans (front1 _ _ _ _)

/-- An argument is, after the launch, what it was before. -/
theorem read_arg (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne spec0 c (V0 m c) _ b hb

theorem last_18 (c : Dev nD) : last m c main_v49 = rows3 (steps m c) 0#1 64 (m ((c.tc : Thread nD τ).loc main_arg18)) := by
  unfold last Pipeline.afterTail₀
  after_reads_simp
  rw [read_arg m c main_arg1 (by decide), read_arg m c main_arg18 (by decide), V_main_arg1, V_main_arg18]
  exact masked _ _
theorem last_19 (c : Dev nD) : last m c main_v53 = rows3 (steps m c) 0#1 64 (m ((c.tc : Thread nD τ).loc main_arg19)) := by
  unfold last Pipeline.afterTail₀
  after_reads_simp
  rw [read_arg m c main_arg1 (by decide), read_arg m c main_arg19 (by decide), V_main_arg1, V_main_arg19]
  exact masked _ _
theorem last_counts (c : Dev nD) : last m c main_v74 = next (steps m c) := by
  unfold last Pipeline.afterTail₀
  after_reads_simp
  refine (congrArg (shapeCast _ · _) ((read_array m c 44).trans (arr_44 m c))).trans ?_
  exact counted_front _

end Cert.KernelIdeal.Hand
-- ==== Proof.Results.lean ====
/-
  The kernel's run: what every result holds when it ends, and its arguments unchanged.
-/
module

public import proofs.«01_k».proof.Proof.Outputs
public import proofs.«01_k».proof.Proof.FrameRun

@[expose] public section

set_option maxRecDepth 16384

noncomputable section

namespace Cert.KernelIdeal.Hand

open Cert.Own
open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

set_option maxHeartbeats 1000000 in
/-- The results, each environment's values at its own step, and the arguments. -/
theorem results : θ_run defs (onTc (τ := τ) (main (F := F))) ⟨m, fun _ => 0, ρ⟩ fun r => ∀ c : Dev nD,
    r.2.mem ((c.tc : Thread nD τ).loc main_v54) = rows2 (steps m c) 0#32 64 (m ((c.tc : Thread nD τ).loc main_arg2))
    ∧ r.2.mem ((c.tc : Thread nD τ).loc main_v55) = rows2 (steps m c) (Scalar.ofBits .f32 0x00000000#32 : F .f32) 64 (m ((c.tc : Thread nD τ).loc main_arg3))
    ∧ r.2.mem ((c.tc : Thread nD τ).loc main_v56) = rows2 (steps m c) (Scalar.ofBits .f32 0x00000000#32 : F .f32) 64 (m ((c.tc : Thread nD τ).loc main_arg4))
    ∧ r.2.mem ((c.tc : Thread nD τ).loc main_v57) = rows2 (steps m c) (Scalar.ofBits .f32 0x00000000#32 : F .f32) 64 (m ((c.tc : Thread nD τ).loc main_arg5))
    ∧ r.2.mem ((c.tc : Thread nD τ).loc main_v58) = rows1 (steps m c) 0#32 64 (m ((c.tc : Thread nD τ).loc main_arg6))
    ∧ r.2.mem ((c.tc : Thread nD τ).loc main_v59) = rows1 (steps m c) 0#32 64 (m ((c.tc : Thread nD τ).loc main_arg7))
    ∧ r.2.mem ((c.tc : Thread nD τ).loc main_v60) = rows2 (steps m c) 0#32 64 (m ((c.tc : Thread nD τ).loc main_arg8))
    ∧ r.2.mem ((c.tc : Thread nD τ).loc main_v61) = rows3 (steps m c) (Scalar.ofBits .f32 0x00000000#32 : F .f32) 64 (m ((c.tc : Thread nD τ).loc main_arg9))
    ∧ r.2.mem ((c.tc : Thread nD τ).loc main_v62) = rows2 (steps m c) (Scalar.ofBits .f32 0x00000000#32 : F .f32) 64 (m ((c.tc : Thread nD τ).loc main_arg10))
    ∧ r.2.mem ((c.tc : Thread nD τ).loc main_v63) = rows2 (steps m c) 0#32 64 (m ((c.tc : Thread nD τ).loc main_arg11))
    ∧ r.2.mem ((c.tc : Thread nD τ).loc main_v64) = rows2 (steps m c) 0#32 64 (m ((c.tc : Thread nD τ).loc main_arg12))
    ∧ r.2.mem ((c.tc : Thread nD τ).loc main_v65) = rows3 (steps m c) (Scalar.ofBits .f32 0x00000000#32 : F .f32) 64 (m ((c.tc : Thread nD τ).loc main_arg13))
    ∧ r.2.mem ((c.tc : Thread nD τ).loc main_v66) = rows3 (steps m c) 0#32 64 (m ((c.tc : Thread nD τ).loc main_arg14))
    ∧ r.2.mem ((c.tc : Thread nD τ).loc main_v67) = rows4 (steps m c) (Scalar.ofBits .f32 0x00000000#32 : F .f32) 64 (m ((c.tc : Thread nD τ).loc main_arg15))
    ∧ r.2.mem ((c.tc : Thread nD τ).loc main_v68) = rows2 (steps m c) (Scalar.ofBits .f32 0x00000000#32 : F .f32) 64 (m ((c.tc : Thread nD τ).loc main_arg16))
    ∧ r.2.mem ((c.tc : Thread nD τ).loc main_v69) = rows3 (steps m c) 0#32 64 (m ((c.tc : Thread nD τ).loc main_arg17))
    ∧ r.2.mem ((c.tc : Thread nD τ).loc main_v49) = rows3 (steps m c) 0#1 64 (m ((c.tc : Thread nD τ).loc main_arg18))
    ∧ r.2.mem ((c.tc : Thread nD τ).loc main_v53) = rows3 (steps m c) 0#1 64 (m ((c.tc : Thread nD τ).loc main_arg19))
    ∧ r.2.mem ((c.tc : Thread nD τ).loc main_v70) = rows1 (steps m c) (Scalar.ofBits .f32 0x00000000#32 : F .f32) 64 (m ((c.tc : Thread nD τ).loc main_arg20))
    ∧ r.2.mem ((c.tc : Thread nD τ).loc main_v71) = rows1 (steps m c) (Scalar.ofBits .f32 0x00000000#32 : F .f32) 64 (m ((c.tc : Thread nD τ).loc main_arg21))
    ∧ r.2.mem ((c.tc : Thread nD τ).loc main_v72) = rows1 (steps m c) (Scalar.ofBits .f32 0x00000000#32 : F .f32) 64 (m ((c.tc : Thread nD τ).loc main_arg22))
    ∧ r.2.mem ((c.tc : Thread nD τ).loc main_v73) = rows1 (steps m c) 0#32 64 (m ((c.tc : Thread nD τ).loc main_arg23))
    ∧ r.2.mem ((c.tc : Thread nD τ).loc main_v74) = next (steps m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23) := by
  refine (θ_run defs _ _).mono (fun r Q c => ?_)
    (θ_run_and ((θ_run defs _ _).mono (fun _ h => h.1) (run_main m ρ)) (framed m ρ trivial))
  exact ⟨((Q.1 c).2 main_v54 (Pipeline.mem_restRefs_of main_v54 (by decide) (by decide))).trans (last_2 m c),
    ((Q.1 c).2 main_v55 (Pipeline.mem_restRefs_of main_v55 (by decide) (by decide))).trans (last_3 m c),
    ((Q.1 c).2 main_v56 (Pipeline.mem_restRefs_of main_v56 (by decide) (by decide))).trans (last_4 m c),
    ((Q.1 c).2 main_v57 (Pipeline.mem_restRefs_of main_v57 (by decide) (by decide))).trans (last_5 m c),
    ((Q.1 c).2 main_v58 (Pipeline.mem_restRefs_of main_v58 (by decide) (by decide))).trans (last_6 m c),
    ((Q.1 c).2 main_v59 (Pipeline.mem_restRefs_of main_v59 (by decide) (by decide))).trans (last_7 m c),
    ((Q.1 c).2 main_v60 (Pipeline.mem_restRefs_of main_v60 (by decide) (by decide))).trans (last_8 m c),
    ((Q.1 c).2 main_v61 (Pipeline.mem_restRefs_of main_v61 (by decide) (by decide))).trans (last_9 m c),
    ((Q.1 c).2 main_v62 (Pipeline.mem_restRefs_of main_v62 (by decide) (by decide))).trans (last_10 m c),
    ((Q.1 c).2 main_v63 (Pipeline.mem_restRefs_of main_v63 (by decide) (by decide))).trans (last_11 m c),
    ((Q.1 c).2 main_v64 (Pipeline.mem_restRefs_of main_v64 (by decide) (by decide))).trans (last_12 m c),
    ((Q.1 c).2 main_v65 (Pipeline.mem_restRefs_of main_v65 (by decide) (by decide))).trans (last_13 m c),
    ((Q.1 c).2 main_v66 (Pipeline.mem_restRefs_of main_v66 (by decide) (by decide))).trans (last_14 m c),
    ((Q.1 c).2 main_v67 (Pipeline.mem_restRefs_of main_v67 (by decide) (by decide))).trans (last_15 m c),
    ((Q.1 c).2 main_v68 (Pipeline.mem_restRefs_of main_v68 (by decide) (by decide))).trans (last_16 m c),
    ((Q.1 c).2 main_v69 (Pipeline.mem_restRefs_of main_v69 (by decide) (by decide))).trans (last_17 m c),
    ((Q.1 c).2 main_v49 (Pipeline.mem_restRefs_of main_v49 (by decide) (by decide))).trans (last_18 m c),
    ((Q.1 c).2 main_v53 (Pipeline.mem_restRefs_of main_v53 (by decide) (by decide))).trans (last_19 m c),
    ((Q.1 c).2 main_v70 (Pipeline.mem_restRefs_of main_v70 (by decide) (by decide))).trans (last_20 m c),
    ((Q.1 c).2 main_v71 (Pipeline.mem_restRefs_of main_v71 (by decide) (by decide))).trans (last_21 m c),
    ((Q.1 c).2 main_v72 (Pipeline.mem_restRefs_of main_v72 (by decide) (by decide))).trans (last_22 m c),
    ((Q.1 c).2 main_v73 (Pipeline.mem_restRefs_of main_v73 (by decide) (by decide))).trans (last_23 m c),
    ((Q.1 c).2 main_v74 (Pipeline.mem_restRefs_of main_v74 (by decide) (by decide))).trans (last_counts m c),
    Q.2.1 c⟩

end Cert.KernelIdeal.Hand
-- ==== Proof.RefValue.lean ====
/-
  What the reference leaves in each result: under the precondition its scatters put every environment's value at its own row,
  and its scatter-add moves every counter one further.
-/
module

public import proofs.«01_k».proof.Proof.Gen.ReferenceIdeal.Run
public import proofs.«01_k».proof.Proof.Own
public import Idealize.ShloMosaic.Lib.Routing.Ops

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

variable {F : FTy → Type} [FloatOps F]
open Facts

/-- A word below `256` read as an integer. -/
theorem toInt_small (e : Fin 256) : (BitVec.ofNat 32 e.val).toInt = (e.val : ℤ) := by
  have he := e.isLt
  rw [BitVec.toInt_ofNat', Int.bmod_eq_of_le (by omega) (by omega)]

section Index

variable (V0 : Valuation τ sig (Elt F))
  (h : Own.Pre (E := 256) (V0 (Proc.devRef .tc main_arg0)) (V0 (Proc.devRef .tc main_arg1)))
include h

/-- The column of environment words. -/
theorem env_apply (e : Fin 256) :
    broadcastInDim S256x1 ![0] bcast_S256_S256x1_0 (select (cmpi .slt (V0 (Proc.devRef .tc main_arg0)) (broadcastInDim S256 ![] bcast_S_S256 (constantI S_ 32 0#32))) (addi (V0 (Proc.devRef .tc main_arg0)) (broadcastInDim S256 ![] bcast_S_S256 (constantI S_ 32 256#32))) (V0 (Proc.devRef .tc main_arg0))) (ix2 e 0)
      = BitVec.ofNat 32 e.val := by
  have hj : 0 ≤ ((V0 (Proc.devRef .tc main_arg0) : IVec S256 32) (ix1 e)).toInt := by
    rw [(h e).1, toInt_small]; exact Int.natCast_nonneg _
  exact (RefIndex.column_apply (E := 256) _ _ e).trans ((RefIndex.wrap_apply (E := 256) _ _ _ _ hj).trans (h e).1)

/-- The gathered steps are the steps. -/
theorem steps_apply (e : Fin 256) : res_main_v6 V0 (ix1 e) = (V0 (Proc.devRef .tc main_arg1) : IVec S256 32) (ix1 e) :=
  Routing.gather_take1 gather_S256_S256x1_S256_n_0_n_n_0_1_1 rfl rfl rfl rfl _ _ e e (env_apply V0 h e) (by decide)

/-- The index array every scatter reads. -/
abbrev index (V0 : Valuation τ sig (Elt F)) : IVec S256x2 32 :=
  concatenate S256x2 1 [⟨S256x1, (broadcastInDim S256x1 ![0] bcast_S256_S256x1_0 (select (cmpi .slt (V0 (Proc.devRef .tc main_arg0)) (broadcastInDim S256 ![] bcast_S_S256 (constantI S_ 32 0#32))) (addi (V0 (Proc.devRef .tc main_arg0)) (broadcastInDim S256 ![] bcast_S_S256 (constantI S_ 32 256#32))) (V0 (Proc.devRef .tc main_arg0))))⟩, ⟨S256x1, (broadcastInDim S256x1 ![0] bcast_S256_S256x1_0 (select (cmpi .slt (res_main_v6 V0) (broadcastInDim S256 ![] bcast_S_S256 (constantI S_ 32 0#32))) (addi (res_main_v6 V0) (broadcastInDim S256 ![] bcast_S_S256 (constantI S_ 32 64#32))) (res_main_v6 V0)))⟩] concatenates_S256x1_S256x1_S256x2_d1

theorem index_env (e : Fin 256) : (index V0 (ix2 e 0)).toInt = (e.val : ℤ) := by
  have hw : index V0 (ix2 e 0) = BitVec.ofNat 32 e.val :=
    (RefIndex.pair_fst (E := 256) concatenates_S256x1_S256x1_S256x2_d1 _ _ e).trans (env_apply V0 h e)
  exact (congrArg BitVec.toInt hw).trans (toInt_small e)

theorem index_step (e : Fin 256) : index V0 (ix2 e 1) = (V0 (Proc.devRef .tc main_arg1) : IVec S256 32) (ix1 e) := by
  have hj : 0 ≤ ((res_main_v6 V0 : IVec S256 32) (ix1 e)).toInt := by rw [steps_apply V0 h e]; exact (h e).2
  exact (RefIndex.pair_snd (E := 256) concatenates_S256x1_S256x1_S256x2_d1 _ _ e).trans
    ((RefIndex.column_apply (E := 256) _ _ e).trans ((RefIndex.wrap_apply (E := 256) _ _ _ _ hj).trans (steps_apply V0 h e)))

/-- The counters' scatter-add. -/
theorem next_apply :
    Host.scatter scatter_S256_S256x1_S256_n_0_0_1 IntOp.addi (V0 (Proc.devRef .tc main_arg1)) (broadcastInDim S256x1 ![0] bcast_S256_S256x1_0 (select (cmpi .slt (V0 (Proc.devRef .tc main_arg0)) (broadcastInDim S256 ![] bcast_S_S256 (constantI S_ 32 0#32))) (addi (V0 (Proc.devRef .tc main_arg0)) (broadcastInDim S256 ![] bcast_S_S256 (constantI S_ 32 256#32))) (V0 (Proc.devRef .tc main_arg0)))) (broadcastInDim S256 ![] bcast_S_S256 (constantI S_ 32 1#32))
      = Own.next (E := 256) (V0 (Proc.devRef .tc main_arg1)) := by
  funext i
  obtain ⟨e, rfl⟩ : ∃ e : Fin 256, i = ix1 e := ⟨_, eq_ix1 i⟩
  refine RefIndex.scatter_once scatter_S256_S256x1_S256_n_0_0_1 _ _ _ _ _ (ix1 e) fun k => ?_
  obtain ⟨e', rfl⟩ : ∃ e' : Fin 256, k = ix1 e' := ⟨_, eq_ix1 k⟩
  rw [Routing.scatter_lands scatter_S256_S256x1_S256_n_0_0_1 rfl rfl rfl _ (fun i => i) (env_apply V0 h) (fun i => by have := i.isLt; omega) e' e]
  exact ⟨fun he => congrArg ix1 (Fin.ext he), fun he => congrArg Fin.val (congrFun he 0)⟩

end Index

/-- The fill of the floating-point results. -/
abbrev zero : F .f32 := constant (F := F) S_ .f32 0x00000000#32 ix0

set_option maxHeartbeats 4000000 in
/-- The reference's run: the results it leaves, its arguments unchanged. -/
theorem results (m : (ℓ : Loc nD τ sig) → Buf (Elt F) ℓ) (ρ : Dev nD → PrngReg)
    (h : ∀ c : Dev nD, Own.Pre (E := 256) (m ((c.tc : Thread nD τ).loc main_arg0)) (m ((c.tc : Thread nD τ).loc main_arg1))) :
    θ_run defs (onTc (τ := τ) (main (F := F))) ⟨m, fun _ => 0, ρ⟩ fun r => ∀ c : Dev nD,
      r.2.mem ((c.tc : Thread nD τ).loc main_v21) = Own.rows2 (E := 256) (m ((c.tc : Thread nD τ).loc main_arg1)) (0#32 : BitVec 32) 64 (m ((c.tc : Thread nD τ).loc main_arg2))
      ∧ r.2.mem ((c.tc : Thread nD τ).loc main_v36) = Own.rows2 (E := 256) (m ((c.tc : Thread nD τ).loc main_arg1)) (zero (F := F)) 64 (m ((c.tc : Thread nD τ).loc main_arg3))
      ∧ r.2.mem ((c.tc : Thread nD τ).loc main_v51) = Own.rows2 (E := 256) (m ((c.tc : Thread nD τ).loc main_arg1)) (zero (F := F)) 64 (m ((c.tc : Thread nD τ).loc main_arg4))
      ∧ r.2.mem ((c.tc : Thread nD τ).loc main_v66) = Own.rows2 (E := 256) (m ((c.tc : Thread nD τ).loc main_arg1)) (zero (F := F)) 64 (m ((c.tc : Thread nD τ).loc main_arg5))
      ∧ r.2.mem ((c.tc : Thread nD τ).loc main_v81) = Own.rows1 (E := 256) (m ((c.tc : Thread nD τ).loc main_arg1)) (0#32 : BitVec 32) 64 (m ((c.tc : Thread nD τ).loc main_arg6))
      ∧ r.2.mem ((c.tc : Thread nD τ).loc main_v96) = Own.rows1 (E := 256) (m ((c.tc : Thread nD τ).loc main_arg1)) (0#32 : BitVec 32) 64 (m ((c.tc : Thread nD τ).loc main_arg7))
      ∧ r.2.mem ((c.tc : Thread nD τ).loc main_v111) = Own.rows2 (E := 256) (m ((c.tc : Thread nD τ).loc main_arg1)) (0#32 : BitVec 32) 64 (m ((c.tc : Thread nD τ).loc main_arg8))
      ∧ r.2.mem ((c.tc : Thread nD τ).loc main_v126) = Own.rows3 (E := 256) (m ((c.tc : Thread nD τ).loc main_arg1)) (zero (F := F)) 64 (m ((c.tc : Thread nD τ).loc main_arg9))
      ∧ r.2.mem ((c.tc : Thread nD τ).loc main_v141) = Own.rows2 (E := 256) (m ((c.tc : Thread nD τ).loc main_arg1)) (zero (F := F)) 64 (m ((c.tc : Thread nD τ).loc main_arg10))
      ∧ r.2.mem ((c.tc : Thread nD τ).loc main_v156) = Own.rows2 (E := 256) (m ((c.tc : Thread nD τ).loc main_arg1)) (0#32 : BitVec 32) 64 (m ((c.tc : Thread nD τ).loc main_arg11))
      ∧ r.2.mem ((c.tc : Thread nD τ).loc main_v171) = Own.rows2 (E := 256) (m ((c.tc : Thread nD τ).loc main_arg1)) (0#32 : BitVec 32) 64 (m ((c.tc : Thread nD τ).loc main_arg12))
      ∧ r.2.mem ((c.tc : Thread nD τ).loc main_v186) = Own.rows3 (E := 256) (m ((c.tc : Thread nD τ).loc main_arg1)) (zero (F := F)) 64 (m ((c.tc : Thread nD τ).loc main_arg13))
      ∧ r.2.mem ((c.tc : Thread nD τ).loc main_v201) = Own.rows3 (E := 256) (m ((c.tc : Thread nD τ).loc main_arg1)) (0#32 : BitVec 32) 64 (m ((c.tc : Thread nD τ).loc main_arg14))
      ∧ r.2.mem ((c.tc : Thread nD τ).loc main_v216) = Own.rows4 (E := 256) (m ((c.tc : Thread nD τ).loc main_arg1)) (zero (F := F)) 64 (m ((c.tc : Thread nD τ).loc main_arg15))
      ∧ r.2.mem ((c.tc : Thread nD τ).loc main_v231) = Own.rows2 (E := 256) (m ((c.tc : Thread nD τ).loc main_arg1)) (zero (F := F)) 64 (m ((c.tc : Thread nD τ).loc main_arg16))
      ∧ r.2.mem ((c.tc : Thread nD τ).loc main_v246) = Own.rows3 (E := 256) (m ((c.tc : Thread nD τ).loc main_arg1)) (0#32 : BitVec 32) 64 (m ((c.tc : Thread nD τ).loc main_arg17))
      ∧ r.2.mem ((c.tc : Thread nD τ).loc main_v261) = Own.rows3 (E := 256) (m ((c.tc : Thread nD τ).loc main_arg1)) (0#1 : BitVec 1) 64 (m ((c.tc : Thread nD τ).loc main_arg18))
      ∧ r.2.mem ((c.tc : Thread nD τ).loc main_v276) = Own.rows3 (E := 256) (m ((c.tc : Thread nD τ).loc main_arg1)) (0#1 : BitVec 1) 64 (m ((c.tc : Thread nD τ).loc main_arg19))
      ∧ r.2.mem ((c.tc : Thread nD τ).loc main_v291) = Own.rows1 (E := 256) (m ((c.tc : Thread nD τ).loc main_arg1)) (zero (F := F)) 64 (m ((c.tc : Thread nD τ).loc main_arg20))
      ∧ r.2.mem ((c.tc : Thread nD τ).loc main_v306) = Own.rows1 (E := 256) (m ((c.tc : Thread nD τ).loc main_arg1)) (zero (F := F)) 64 (m ((c.tc : Thread nD τ).loc main_arg21))
      ∧ r.2.mem ((c.tc : Thread nD τ).loc main_v321) = Own.rows1 (E := 256) (m ((c.tc : Thread nD τ).loc main_arg1)) (zero (F := F)) 64 (m ((c.tc : Thread nD τ).loc main_arg22))
      ∧ r.2.mem ((c.tc : Thread nD τ).loc main_v336) = Own.rows1 (E := 256) (m ((c.tc : Thread nD τ).loc main_arg1)) (0#32 : BitVec 32) 64 (m ((c.tc : Thread nD τ).loc main_arg23))
      ∧ r.2.mem ((c.tc : Thread nD τ).loc main_v344) = Own.next (E := 256) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) := by
  have H : ∀ c : Dev nD, Own.Pre (E := 256) (launchContents m c (Proc.devRef .tc main_arg0)) (launchContents m c (Proc.devRef .tc main_arg1)) := h
  refine (θ_run defs _ _).mono (fun r Q c => ?_) (run m ρ)
  exact ⟨(Q c).1.trans (Own.scatter2 (E := 256) (T := 64) _ _ _ (index_env _ (H c)) (index_step _ (H c)) _ _ (fun _ => rfl) _),
    (Q c).2.1.trans (Own.scatter2 (E := 256) (T := 64) _ _ _ (index_env _ (H c)) (index_step _ (H c)) _ _ (fun _ => rfl) _),
    (Q c).2.2.1.trans (Own.scatter2 (E := 256) (T := 64) _ _ _ (index_env _ (H c)) (index_step _ (H c)) _ _ (fun _ => rfl) _),
    (Q c).2.2.2.1.trans (Own.scatter2 (E := 256) (T := 64) _ _ _ (index_env _ (H c)) (index_step _ (H c)) _ _ (fun _ => rfl) _),
    (Q c).2.2.2.2.1.trans (Own.scatter1 (E := 256) (T := 64) _ _ _ (index_env _ (H c)) (index_step _ (H c)) _ _ (fun _ => rfl) _),
    (Q c).2.2.2.2.2.1.trans (Own.scatter1 (E := 256) (T := 64) _ _ _ (index_env _ (H c)) (index_step _ (H c)) _ _ (fun _ => rfl) _),
    (Q c).2.2.2.2.2.2.1.trans (Own.scatter2 (E := 256) (T := 64) _ _ _ (index_env _ (H c)) (index_step _ (H c)) _ _ (fun _ => rfl) _),
    (Q c).2.2.2.2.2.2.2.1.trans (Own.scatter3 (E := 256) (T := 64) _ _ _ (index_env _ (H c)) (index_step _ (H c)) _ _ (fun _ => rfl) _),
    (Q c).2.2.2.2.2.2.2.2.1.trans (Own.scatter2 (E := 256) (T := 64) _ _ _ (index_env _ (H c)) (index_step _ (H c)) _ _ (fun _ => rfl) _),
    (Q c).2.2.2.2.2.2.2.2.2.1.trans (Own.scatter2 (E := 256) (T := 64) _ _ _ (index_env _ (H c)) (index_step _ (H c)) _ _ (fun _ => rfl) _),
    (Q c).2.2.2.2.2.2.2.2.2.2.1.trans (Own.scatter2 (E := 256) (T := 64) _ _ _ (index_env _ (H c)) (index_step _ (H c)) _ _ (fun _ => rfl) _),
    (Q c).2.2.2.2.2.2.2.2.2.2.2.1.trans (Own.scatter3 (E := 256) (T := 64) _ _ _ (index_env _ (H c)) (index_step _ (H c)) _ _ (fun _ => rfl) _),
    (Q c).2.2.2.2.2.2.2.2.2.2.2.2.1.trans (Own.scatter3 (E := 256) (T := 64) _ _ _ (index_env _ (H c)) (index_step _ (H c)) _ _ (fun _ => rfl) _),
    (Q c).2.2.2.2.2.2.2.2.2.2.2.2.2.1.trans (Own.scatter4 (E := 256) (T := 64) _ _ _ (index_env _ (H c)) (index_step _ (H c)) _ _ (fun _ => rfl) _),
    (Q c).2.2.2.2.2.2.2.2.2.2.2.2.2.2.1.trans (Own.scatter2 (E := 256) (T := 64) _ _ _ (index_env _ (H c)) (index_step _ (H c)) _ _ (fun _ => rfl) _),
    (Q c).2.2.2.2.2.2.2.2.2.2.2.2.2.2.2.1.trans (Own.scatter3 (E := 256) (T := 64) _ _ _ (index_env _ (H c)) (index_step _ (H c)) _ _ (fun _ => rfl) _),
    (Q c).2.2.2.2.2.2.2.2.2.2.2.2.2.2.2.2.1.trans (Own.scatter3 (E := 256) (T := 64) _ _ _ (index_env _ (H c)) (index_step _ (H c)) _ _ (fun _ => rfl) _),
    (Q c).2.2.2.2.2.2.2.2.2.2.2.2.2.2.2.2.2.1.trans (Own.scatter3 (E := 256) (T := 64) _ _ _ (index_env _ (H c)) (index_step _ (H c)) _ _ (fun _ => rfl) _),
    (Q c).2.2.2.2.2.2.2.2.2.2.2.2.2.2.2.2.2.2.1.trans (Own.scatter1 (E := 256) (T := 64) _ _ _ (index_env _ (H c)) (index_step _ (H c)) _ _ (fun _ => rfl) _),
    (Q c).2.2.2.2.2.2.2.2.2.2.2.2.2.2.2.2.2.2.2.1.trans (Own.scatter1 (E := 256) (T := 64) _ _ _ (index_env _ (H c)) (index_step _ (H c)) _ _ (fun _ => rfl) _),
    (Q c).2.2.2.2.2.2.2.2.2.2.2.2.2.2.2.2.2.2.2.2.1.trans (Own.scatter1 (E := 256) (T := 64) _ _ _ (index_env _ (H c)) (index_step _ (H c)) _ _ (fun _ => rfl) _),
    (Q c).2.2.2.2.2.2.2.2.2.2.2.2.2.2.2.2.2.2.2.2.2.1.trans (Own.scatter1 (E := 256) (T := 64) _ _ _ (index_env _ (H c)) (index_step _ (H c)) _ _ (fun _ => rfl) _),
    (Q c).2.2.2.2.2.2.2.2.2.2.2.2.2.2.2.2.2.2.2.2.2.2.1.trans (next_apply _ (H c)),
    (Q c).2.2.2.2.2.2.2.2.2.2.2.2.2.2.2.2.2.2.2.2.2.2.2⟩

end Cert.ReferenceIdeal.Hand
-- ==== Proof.Precondition.lean ====
/-
  The precondition read: the environment words are 0, 1, 2, … in order and no step is negative.
-/
module

public import proofs.«01_k».proof.Defs
public import proofs.«01_k».proof.Proof.Own

@[expose] public section

namespace Cert.Precondition

open Idealize.ShloMosaic Idealize.ShloMosaic.ValueIdx

/-- The precondition's own condition. -/
theorem facts : Cert.Pre_own_row_from_zero.Facts := ⟨by decide⟩

theorem andi_ofBool (p q : Bool) : IntOp.andi (BitVec.ofBool p) (BitVec.ofBool q) = BitVec.ofBool (p && q) := by
  cases p <;> cases q <;> rfl
theorem ofBool_eq_one (p : Bool) : BitVec.ofBool p = 1#1 ↔ p = true := by cases p <;> decide

/-- One environment's two tests. -/
theorem tests (w s : BitVec 32) (n : ℕ) (h : IntOp.andi (IntOp.cmpi .eq w (BitVec.ofNat 32 n)) (IntOp.cmpi .sge s 0#32) = 1#1) :
    w = BitVec.ofNat 32 n ∧ 0 ≤ s.toInt := by
  have e : BitVec.ofBool ((w == BitVec.ofNat 32 n) && (BitVec.sle 0#32 s)) = 1#1 := (andi_ofBool _ _).symm.trans h
  rw [ofBool_eq_one, Bool.and_eq_true, beq_iff_eq] at e
  refine ⟨e.1, ?_⟩
  have := e.2
  rw [BitVec.sle_iff_toInt_le] at this
  exact this

/-- The precondition on a program's memory gives `Own.Pre`. -/
theorem own (m : (ℓ : Loc Cert.KernelIdeal.nD Cert.KernelIdeal.τ Cert.KernelIdeal.sig) → Buf (Elt Ideal) ℓ)
    (h : Cert.Pre_KernelIdeal_own_row_from_zero (hPre_own_row_from_zero := facts) m) (c : Dev Cert.KernelIdeal.nD) :
    Own.Pre (E := 256) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := fun e =>
  tests _ _ e.val (congrFun (h c) (ix1 e))

end Cert.Precondition
-- ==== Proof.Equal.lean ====
/-
  The equation: under the precondition the kernel and the reference end with the same results. Both are each environment's
  values at its own step.
-/
module

public import proofs.«01_k».proof.Defs
public import proofs.«01_k».proof.Proof.Results
public import proofs.«01_k».proof.Proof.RefValue
public import proofs.«01_k».proof.Proof.Precondition

@[expose] public section

set_option maxRecDepth 16384

noncomputable section

namespace Cert.Equal

open Idealize.ShloMosaic Idealize.SL.Sem
open Cert.Own

instance : Cert.Pre_own_row_from_zero.Facts := Cert.Precondition.facts

section Rows

variable {α : Type} {E A B C : ℕ} {s s' : (⟨1, ![E]⟩ : Shape).Idx → BitVec 32} (z : α) (T : ℕ)

/-! The rows depend on the steps and the values only. -/

theorem same1 {x x' : (⟨1, ![E]⟩ : Shape).Idx → α} (hs : s' = s) (hx : x' = x) : rows1 s' z T x' = rows1 s z T x := by
  rw [hs, hx]
theorem same2 {x x' : (⟨2, ![E, A]⟩ : Shape).Idx → α} (hs : s' = s) (hx : x' = x) : rows2 s' z T x' = rows2 s z T x := by
  rw [hs, hx]
theorem same3 {x x' : (⟨3, ![E, A, B]⟩ : Shape).Idx → α} (hs : s' = s) (hx : x' = x) : rows3 s' z T x' = rows3 s z T x := by
  rw [hs, hx]
theorem same4 {x x' : (⟨4, ![E, A, B, C]⟩ : Shape).Idx → α} (hs : s' = s) (hx : x' = x) : rows4 s' z T x' = rows4 s z T x := by
  rw [hs, hx]

end Rows

/-- The precondition on the reference's memory, from the agreement of the arguments. -/
theorem own_reference (e e' s s' : (⟨1, ![256]⟩ : Shape).Idx → BitVec 32) (he : e' = e) (hs : s' = s) (h : Pre (E := 256) e s) :
    Pre (E := 256) e' s' := by
  rw [he, hs]
  exact h

set_option maxHeartbeats 4000000 in
theorem algebraic : Cert.algebraic_KernelIdeal_ReferenceIdeal_pre_own_row_from_zero := by
  intro m g m' g' hpre hagree
  have hown : ∀ c : Dev Cert.ReferenceIdeal.nD, Pre (E := 256)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := fun c =>
    own_reference _ _ _ _ (hagree c).1 (hagree c).2.1 (Cert.Precondition.own m hpre c)
  refine ⟨_, _, _, _, _, _, _, _, _, _, _, _, _, _, _, _, _, _, _, _, _, _, _,
    Cert.KernelIdeal.Hand.results m g, (θ_run Cert.ReferenceIdeal.defs _ _).mono (fun r Q c => ?_) (Cert.ReferenceIdeal.Hand.results m' g' hown)⟩
  have hs := (hagree c).2.1
  exact ⟨(Q c).1.trans (same2 _ 64 hs (hagree c).2.2.1),
    (Q c).2.1.trans (same2 _ 64 hs (hagree c).2.2.2.1),
    (Q c).2.2.1.trans (same2 _ 64 hs (hagree c).2.2.2.2.1),
    (Q c).2.2.2.1.trans (same2 _ 64 hs (hagree c).2.2.2.2.2.1),
    (Q c).2.2.2.2.1.trans (same1 _ 64 hs (hagree c).2.2.2.2.2.2.1),
    (Q c).2.2.2.2.2.1.trans (same1 _ 64 hs (hagree c).2.2.2.2.2.2.2.1),
    (Q c).2.2.2.2.2.2.1.trans (same2 _ 64 hs (hagree c).2.2.2.2.2.2.2.2.1),
    (Q c).2.2.2.2.2.2.2.1.trans (same3 _ 64 hs (hagree c).2.2.2.2.2.2.2.2.2.1),
    (Q c).2.2.2.2.2.2.2.2.1.trans (same2 _ 64 hs (hagree c).2.2.2.2.2.2.2.2.2.2.1),
    (Q c).2.2.2.2.2.2.2.2.2.1.trans (same2 _ 64 hs (hagree c).2.2.2.2.2.2.2.2.2.2.2.1),
    (Q c).2.2.2.2.2.2.2.2.2.2.1.trans (same2 _ 64 hs (hagree c).2.2.2.2.2.2.2.2.2.2.2.2.1),
    (Q c).2.2.2.2.2.2.2.2.2.2.2.1.trans (same3 _ 64 hs (hagree c).2.2.2.2.2.2.2.2.2.2.2.2.2.1),
    (Q c).2.2.2.2.2.2.2.2.2.2.2.2.1.trans (same3 _ 64 hs (hagree c).2.2.2.2.2.2.2.2.2.2.2.2.2.2.1),
    (Q c).2.2.2.2.2.2.2.2.2.2.2.2.2.1.trans (same4 _ 64 hs (hagree c).2.2.2.2.2.2.2.2.2.2.2.2.2.2.2.1),
    (Q c).2.2.2.2.2.2.2.2.2.2.2.2.2.2.1.trans (same2 _ 64 hs (hagree c).2.2.2.2.2.2.2.2.2.2.2.2.2.2.2.2.1),
    (Q c).2.2.2.2.2.2.2.2.2.2.2.2.2.2.2.1.trans (same3 _ 64 hs (hagree c).2.2.2.2.2.2.2.2.2.2.2.2.2.2.2.2.2.1),
    (Q c).2.2.2.2.2.2.2.2.2.2.2.2.2.2.2.2.1.trans (same3 _ 64 hs (hagree c).2.2.2.2.2.2.2.2.2.2.2.2.2.2.2.2.2.2.1),
    (Q c).2.2.2.2.2.2.2.2.2.2.2.2.2.2.2.2.2.1.trans (same3 _ 64 hs (hagree c).2.2.2.2.2.2.2.2.2.2.2.2.2.2.2.2.2.2.2.1),
    (Q c).2.2.2.2.2.2.2.2.2.2.2.2.2.2.2.2.2.2.1.trans (same1 _ 64 hs (hagree c).2.2.2.2.2.2.2.2.2.2.2.2.2.2.2.2.2.2.2.2.1),
    (Q c).2.2.2.2.2.2.2.2.2.2.2.2.2.2.2.2.2.2.2.1.trans (same1 _ 64 hs (hagree c).2.2.2.2.2.2.2.2.2.2.2.2.2.2.2.2.2.2.2.2.2.1),
    (Q c).2.2.2.2.2.2.2.2.2.2.2.2.2.2.2.2.2.2.2.2.1.trans (same1 _ 64 hs (hagree c).2.2.2.2.2.2.2.2.2.2.2.2.2.2.2.2.2.2.2.2.2.2.1),
    (Q c).2.2.2.2.2.2.2.2.2.2.2.2.2.2.2.2.2.2.2.2.2.1.trans (same1 _ 64 hs (hagree c).2.2.2.2.2.2.2.2.2.2.2.2.2.2.2.2.2.2.2.2.2.2.2),
    (Q c).2.2.2.2.2.2.2.2.2.2.2.2.2.2.2.2.2.2.2.2.2.2.1.trans (congrArg (next (E := 256)) hs),
    (Q c).2.2.2.2.2.2.2.2.2.2.2.2.2.2.2.2.2.2.2.2.2.2.2⟩

end Cert.Equal
-- ==== Proof.lean ====
/-
  The claim: both programs' frames and the reference's, and, under the precondition, equal results of the kernel and the
  reference.
-/
module

public import proofs.«01_k».proof.Defs
public import proofs.«01_k».proof.Proof.Transfer
public import proofs.«01_k».proof.Proof.RefFrame
public import proofs.«01_k».proof.Proof.Equal

@[expose] public section

set_option maxRecDepth 16384

noncomputable section

namespace Cert.Proof

/-- The kernel's frame at the extended reals. -/
theorem frame_ideal : Cert.quiescent_KernelIdeal := Cert.KernelIdeal.Hand.framed

theorem claim : Cert.Claim := ⟨Cert.Kernel.Gen.facts, Cert.KernelIdeal.Gen.facts, Cert.ReferenceIdeal.Gen.facts, Cert.Precondition.facts,
  Cert.Transfer.framed, frame_ideal, fun m g _ => frame_ideal m g trivial, Cert.RefFrame.framed,
  fun m g _ => Cert.RefFrame.framed m g trivial, trivial, Cert.Equal.algebraic⟩

end Cert.Proof

end
